-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S8 : Shape := ⟨1, ![8]⟩
abbrev S_ : Shape := ⟨0, ![]⟩
abbrev S64x512 : Shape := ⟨2, ![64, 512]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .local _ .vmem, ⟨0, _⟩ => ⟨S512x512, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v23 : BitVec 32 := Scalar.muli v6 c2_i32_17
  let v24 : BitVec 32 := Scalar.addi c0_i32_18 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v25 : BitVec 32 := Scalar.muli v5 c1_i32_19
  let v26 : BitVec 32 := Scalar.addi v24 v25
  v26.toNat
def k0_dev4 (d0 : Dev nD) : Nat :=
  let c0_i32_30 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_29 : BitVec 32 := 2#32
  let v39 : BitVec 32 := Scalar.muli v6 c2_i32_29
  let v40 : BitVec 32 := Scalar.addi c0_i32_30 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v41 : BitVec 32 := Scalar.muli v5 c1_i32_31
  let v42 : BitVec 32 := Scalar.addi v40 v41
  v42.toNat
def k0_dev5 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v55 : BitVec 32 := Scalar.muli v6 c2_i32_40
  let v56 : BitVec 32 := Scalar.addi c0_i32_41 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v57 : BitVec 32 := Scalar.muli v5 c1_i32_42
  let v58 : BitVec 32 := Scalar.addi v56 v57
  v58.toNat
def k0_dev6 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v71 : BitVec 32 := Scalar.muli v6 c2_i32_50
  let v72 : BitVec 32 := Scalar.addi c0_i32_51 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v73 : BitVec 32 := Scalar.muli v5 c1_i32_52
  let v74 : BitVec 32 := Scalar.addi v72 v73
  v74.toNat
def k0_dev7 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v87 : BitVec 32 := Scalar.muli v6 c2_i32_60
  let v88 : BitVec 32 := Scalar.addi c0_i32_61 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v89 : BitVec 32 := Scalar.muli v5 c1_i32_62
  let v90 : BitVec 32 := Scalar.addi v88 v89
  v90.toNat
def k0_dev8 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v103 : BitVec 32 := Scalar.muli v6 c2_i32_70
  let v104 : BitVec 32 := Scalar.addi c0_i32_71 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v105 : BitVec 32 := Scalar.muli v5 c1_i32_72
  let v106 : BitVec 32 := Scalar.addi v104 v105
  v106.toNat
def k0_dev9 (d0 : Dev nD) : Nat :=
  let c0_i32_81 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_80 : BitVec 32 := 2#32
  let v119 : BitVec 32 := Scalar.muli v6 c2_i32_80
  let v120 : BitVec 32 := Scalar.addi c0_i32_81 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_82 : BitVec 32 := 1#32
  let v121 : BitVec 32 := Scalar.muli v5 c1_i32_82
  let v122 : BitVec 32 := Scalar.addi v120 v121
  v122.toNat
def k0_dev10 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v135 : BitVec 32 := Scalar.muli v6 c2_i32_90
  let v136 : BitVec 32 := Scalar.addi c0_i32_91 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v137 : BitVec 32 := Scalar.muli v5 c1_i32_92
  let v138 : BitVec 32 := Scalar.addi v136 v137
  v138.toNat
def k0_off1 (d0 : Dev nD) : Fin 2 → Nat :=
  let c0_109 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v158 : BitVec 32 := Scalar.muli v5 c512_i32
  let v159 : Index := Scalar.indexCast v158
  ![0, v159.toNat]
def k0_dev11 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v165 : BitVec 32 := Scalar.muli v2 c2_i32_114
  let v166 : BitVec 32 := Scalar.addi c0_i32_115 v165
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_116 : BitVec 32 := 1#32
  let v167 : BitVec 32 := Scalar.muli v7 c1_i32_116
  let v168 : BitVec 32 := Scalar.addi v166 v167
  v168.toNat
def k0_off2 (d0 : Dev nD) : Fin 2 → Nat :=
  let c64_135 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_134 : BitVec 32 := 512#32
  let v188 : BitVec 32 := Scalar.muli v5 c512_i32_134
  let v189 : Index := Scalar.indexCast v188
  ![64, v189.toNat]
def k0_dev12 (d0 : Dev nD) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v195 : BitVec 32 := Scalar.muli v2 c2_i32_140
  let v196 : BitVec 32 := Scalar.addi c0_i32_141 v195
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_142 : BitVec 32 := 1#32
  let v197 : BitVec 32 := Scalar.muli v7 c1_i32_142
  let v198 : BitVec 32 := Scalar.addi v196 v197
  v198.toNat
def k0_off3 (d0 : Dev nD) : Fin 2 → Nat :=
  let c128_161 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_160 : BitVec 32 := 512#32
  let v218 : BitVec 32 := Scalar.muli v5 c512_i32_160
  let v219 : Index := Scalar.indexCast v218
  ![128, v219.toNat]
def k0_dev13 (d0 : Dev nD) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v225 : BitVec 32 := Scalar.muli v2 c2_i32_166
  let v226 : BitVec 32 := Scalar.addi c0_i32_167 v225
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_168 : BitVec 32 := 1#32
  let v227 : BitVec 32 := Scalar.muli v7 c1_i32_168
  let v228 : BitVec 32 := Scalar.addi v226 v227
  v228.toNat
def k0_off4 (d0 : Dev nD) : Fin 2 → Nat :=
  let c192_187 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_186 : BitVec 32 := 512#32
  let v248 : BitVec 32 := Scalar.muli v5 c512_i32_186
  let v249 : Index := Scalar.indexCast v248
  ![192, v249.toNat]
def k0_dev14 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v255 : BitVec 32 := Scalar.muli v2 c2_i32_192
  let v256 : BitVec 32 := Scalar.addi c0_i32_193 v255
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v257 : BitVec 32 := Scalar.muli v7 c1_i32_194
  let v258 : BitVec 32 := Scalar.addi v256 v257
  v258.toNat
def k0_off5 (d0 : Dev nD) : Fin 2 → Nat :=
  let c256_213 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_212 : BitVec 32 := 512#32
  let v278 : BitVec 32 := Scalar.muli v5 c512_i32_212
  let v279 : Index := Scalar.indexCast v278
  ![256, v279.toNat]
def k0_dev15 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v285 : BitVec 32 := Scalar.muli v2 c2_i32_218
  let v286 : BitVec 32 := Scalar.addi c0_i32_219 v285
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_220 : BitVec 32 := 1#32
  let v287 : BitVec 32 := Scalar.muli v7 c1_i32_220
  let v288 : BitVec 32 := Scalar.addi v286 v287
  v288.toNat
def k0_off6 (d0 : Dev nD) : Fin 2 → Nat :=
  let c320_239 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_238 : BitVec 32 := 512#32
  let v308 : BitVec 32 := Scalar.muli v5 c512_i32_238
  let v309 : Index := Scalar.indexCast v308
  ![320, v309.toNat]
def k0_dev16 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v315 : BitVec 32 := Scalar.muli v2 c2_i32_244
  let v316 : BitVec 32 := Scalar.addi c0_i32_245 v315
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_246 : BitVec 32 := 1#32
  let v317 : BitVec 32 := Scalar.muli v7 c1_i32_246
  let v318 : BitVec 32 := Scalar.addi v316 v317
  v318.toNat
def k0_off7 (d0 : Dev nD) : Fin 2 → Nat :=
  let c384_265 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_264 : BitVec 32 := 512#32
  let v338 : BitVec 32 := Scalar.muli v5 c512_i32_264
  let v339 : Index := Scalar.indexCast v338
  ![384, v339.toNat]
def k0_dev17 (d0 : Dev nD) : Nat :=
  let c0_i32_271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_270 : BitVec 32 := 2#32
  let v345 : BitVec 32 := Scalar.muli v2 c2_i32_270
  let v346 : BitVec 32 := Scalar.addi c0_i32_271 v345
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_272 : BitVec 32 := 1#32
  let v347 : BitVec 32 := Scalar.muli v7 c1_i32_272
  let v348 : BitVec 32 := Scalar.addi v346 v347
  v348.toNat
def k0_off8 (d0 : Dev nD) : Fin 2 → Nat :=
  let c448_291 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_290 : BitVec 32 := 512#32
  let v368 : BitVec 32 := Scalar.muli v5 c512_i32_290
  let v369 : Index := Scalar.indexCast v368
  ![448, v369.toNat]
def k0_dev18 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v375 : BitVec 32 := Scalar.muli v2 c2_i32_296
  let v376 : BitVec 32 := Scalar.addi c0_i32_297 v375
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_298 : BitVec 32 := 1#32
  let v377 : BitVec 32 := Scalar.muli v7 c1_i32_298
  let v378 : BitVec 32 := Scalar.addi v376 v377
  v378.toNat
def k0_off9 (d0 : Dev nD) : Fin 2 → Nat :=
  let c0_316 : Index := 0#32
  let c1_i32_314 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v395 : BitVec 32 := Scalar.subi c1_i32_314 v5
  let c512_i32_315 : BitVec 32 := 512#32
  let v396 : BitVec 32 := Scalar.muli v395 c512_i32_315
  let v397 : Index := Scalar.indexCast v396
  ![0, v397.toNat]
def k0_off10 (d0 : Dev nD) : Fin 2 → Nat :=
  let c64_330 : Index := 64#32
  let c1_i32_328 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v409 : BitVec 32 := Scalar.subi c1_i32_328 v5
  let c512_i32_329 : BitVec 32 := 512#32
  let v410 : BitVec 32 := Scalar.muli v409 c512_i32_329
  let v411 : Index := Scalar.indexCast v410
  ![64, v411.toNat]
def k0_off11 (d0 : Dev nD) : Fin 2 → Nat :=
  let c128_344 : Index := 128#32
  let c1_i32_342 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v423 : BitVec 32 := Scalar.subi c1_i32_342 v5
  let c512_i32_343 : BitVec 32 := 512#32
  let v424 : BitVec 32 := Scalar.muli v423 c512_i32_343
  let v425 : Index := Scalar.indexCast v424
  ![128, v425.toNat]
def k0_off12 (d0 : Dev nD) : Fin 2 → Nat :=
  let c192_358 : Index := 192#32
  let c1_i32_356 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v437 : BitVec 32 := Scalar.subi c1_i32_356 v5
  let c512_i32_357 : BitVec 32 := 512#32
  let v438 : BitVec 32 := Scalar.muli v437 c512_i32_357
  let v439 : Index := Scalar.indexCast v438
  ![192, v439.toNat]
def k0_off13 (d0 : Dev nD) : Fin 2 → Nat :=
  let c256_372 : Index := 256#32
  let c1_i32_370 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v451 : BitVec 32 := Scalar.subi c1_i32_370 v5
  let c512_i32_371 : BitVec 32 := 512#32
  let v452 : BitVec 32 := Scalar.muli v451 c512_i32_371
  let v453 : Index := Scalar.indexCast v452
  ![256, v453.toNat]
def k0_off14 (d0 : Dev nD) : Fin 2 → Nat :=
  let c320_386 : Index := 320#32
  let c1_i32_384 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v465 : BitVec 32 := Scalar.subi c1_i32_384 v5
  let c512_i32_385 : BitVec 32 := 512#32
  let v466 : BitVec 32 := Scalar.muli v465 c512_i32_385
  let v467 : Index := Scalar.indexCast v466
  ![320, v467.toNat]
def k0_off15 (d0 : Dev nD) : Fin 2 → Nat :=
  let c384_400 : Index := 384#32
  let c1_i32_398 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v479 : BitVec 32 := Scalar.subi c1_i32_398 v5
  let c512_i32_399 : BitVec 32 := 512#32
  let v480 : BitVec 32 := Scalar.muli v479 c512_i32_399
  let v481 : Index := Scalar.indexCast v480
  ![384, v481.toNat]
def k0_off16 (d0 : Dev nD) : Fin 2 → Nat :=
  let c448_414 : Index := 448#32
  let c1_i32_412 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v493 : BitVec 32 := Scalar.subi c1_i32_412 v5
  let c512_i32_413 : BitVec 32 := 512#32
  let v494 : BitVec 32 := Scalar.muli v493 c512_i32_413
  let v495 : Index := Scalar.indexCast v494
  ![448, v495.toNat]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S2x512x1024 : Shape := ⟨3, ![2, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x512x1024, .f32⟩
  | .hbm, ⟨2, _⟩ => ⟨S_, .f32⟩
  | .hbm, ⟨3, _⟩ => ⟨S512x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
# `Steps`: the kernel's body as a handshake and four loops over the eight row chunks

The kernel handles its 512 rows in eight chunks of 64. Its printed body is unrolled: eight times "stage a chunk in bf16
and send it along x", eight times "take the neighbour's chunk, add, keep the sum and send it along y", eight times
"take the y neighbour's sum and keep it", eight times "wait for the two sends". This module names the step of each
loop once, for any chunk `k`, and shows that the printed body is the entry handshake followed by the four loops.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs, the chunk rectangles, the semaphores -/

abbrev xM : Memref sig .tc .vmem S512x512 .f32 := Memref.whole cc0_stg0_0
abbrev oM : Memref sig .tc .vmem S512x1024 .f32 := Memref.whole cc0_stg1_0
/-- the bf16 copy of the block, sent along x; -/
abbrev xsM : Memref sig .tc .vmem S512x512 .bf16 := Memref.whole cc0_scratch0
/-- where the x neighbour's lands; -/
abbrev xrM : Memref sig .tc .vmem S512x512 .bf16 := Memref.whole cc0_scratch1
/-- the sum rounded to bf16, sent along y; -/
abbrev ysM : Memref sig .tc .vmem S512x512 .bf16 := Memref.whole cc0_scratch2
/-- where the y neighbour's lands. -/
abbrev yrM : Memref sig .tc .vmem S512x512 .bf16 := Memref.whole cc0_scratch3

theorem inb (k : Fin 8) : ∀ a, (![64 * k.val, 0] : Fin 2 → Nat) a + S64x512.size a ≤ S512x512.size a := by
  intro a
  have hk := k.isLt
  fin_cases a
  · show 64 * k.val + 64 ≤ 512; omega
  · show 0 + 512 ≤ 512; omega

/-- Rows `64 k … 64 k + 63` of a 512 × 512 buffer. -/
abbrev rect (k : Fin 8) : Rect S512x512 := Rect.unit (s := S512x512) ![64 * k.val, 0] S64x512.size (inb k)

theorem inb8 (k : Fin 8) : ∀ a, (![k.val] : Fin 1 → Nat) a + S1.size a ≤ S8.size a := by
  intro a
  have hk := k.isLt
  fin_cases a
  show k.val + 1 ≤ 8; omega

/-- Semaphore `k` of an array of eight. -/
abbrev semAt (A : DmaSems sig S8) (k : Fin 8) : DmaSem sig :=
  ((A.slice (Rect.unit (s := S8) ![k.val] S1.size (inb8 k))).squeeze S_ squeezes_S1_S_).sem

theorem packed (k : Fin 8) : (rect k).PackedRows (EltTy.packing .bf16) := by
  fin_cases k
  exacts [packedbf16_S512x512_S64x512_0_0, packedbf16_S512x512_S64x512_64_0, packedbf16_S512x512_S64x512_128_0,
    packedbf16_S512x512_S64x512_192_0, packedbf16_S512x512_S64x512_256_0, packedbf16_S512x512_S64x512_320_0,
    packedbf16_S512x512_S64x512_384_0, packedbf16_S512x512_S64x512_448_0]

theorem words (k : Fin 8) : (rect k).WholeWords (EltTy.packing .bf16) := by
  fin_cases k
  exacts [wordsbf16_S512x512_S64x512_0_0, wordsbf16_S512x512_S64x512_64_0, wordsbf16_S512x512_S64x512_128_0,
    wordsbf16_S512x512_S64x512_192_0, wordsbf16_S512x512_S64x512_256_0, wordsbf16_S512x512_S64x512_320_0,
    wordsbf16_S512x512_S64x512_384_0, wordsbf16_S512x512_S64x512_448_0]

/-- The chunk's offsets in the result block, the columns of the device's own y coordinate, as the program computes them; -/
def offOwn (k : Fin 8) (d0 : Dev nD) : Fin 2 → Nat :=
  ![64 * k.val, (Scalar.indexCast (Scalar.muli (Scalar.remsi (Scalar.divsi (Dev.word d0) 1#32) 2#32) 512#32) : Index).toNat]
/-- and the columns of the other y coordinate. -/
def offOther (k : Fin 8) (d0 : Dev nD) : Fin 2 → Nat :=
  ![64 * k.val, (Scalar.indexCast (Scalar.muli (Scalar.subi 1#32 (Scalar.remsi (Scalar.divsi (Dev.word d0) 1#32) 2#32)) 512#32) : Index).toNat]

theorem offOwn_eq (k : Fin 8) (d : Dev nD) : offOwn k d = ![64 * k.val, 512 * (d.val % 2)] := by
  have h : k0_off1 d = offOwn 0 d := rfl
  have h1 := congrFun ((k0_off1_eq d).symm.trans h) 1
  funext a; fin_cases a
  · rfl
  · exact h1.symm
theorem offOther_eq (k : Fin 8) (d : Dev nD) : offOther k d = ![64 * k.val, 512 - 512 * (d.val % 2)] := by
  have h : k0_off9 d = offOther 0 d := rfl
  have h1 := congrFun ((k0_off9_eq d).symm.trans h) 1
  funext a; fin_cases a
  · rfl
  · exact h1.symm

theorem inbOwn (k : Fin 8) (d : Dev nD) : ∀ a, (offOwn k d) a + S64x512.size a ≤ S512x1024.size a := by
  intro a; have hk := k.isLt; have := Nat.mod_lt d.val (by decide : 0 < 2)
  rw [offOwn_eq]; fin_cases a
  · show 64 * k.val + 64 ≤ 512; omega
  · show 512 * (d.val % 2) + 512 ≤ 1024; omega
theorem inbOther (k : Fin 8) (d : Dev nD) : ∀ a, (offOther k d) a + S64x512.size a ≤ S512x1024.size a := by
  intro a; have hk := k.isLt
  rw [offOther_eq]; fin_cases a
  · show 64 * k.val + 64 ≤ 512; omega
  · show 512 - 512 * (d.val % 2) + 512 ≤ 1024; omega

/-- Rows of chunk `k`, the device's own column half of the result block; -/
abbrev rectOwn (k : Fin 8) (d : Dev nD) : Rect S512x1024 := Rect.unit (s := S512x1024) (offOwn k d) S64x512.size (inbOwn k d)
/-- the other column half. -/
abbrev rectOther (k : Fin 8) (d : Dev nD) : Rect S512x1024 := Rect.unit (s := S512x1024) (offOther k d) S64x512.size (inbOther k d)

/-! ## The steps -/

/-- Chunk `k` of a 512 × 512 bf16 buffer as a transfer's memref. -/
abbrev ch (M : Memref sig .tc .vmem S512x512 .bf16) (k : Fin 8) : Memref sig .tc .vmem S64x512 .bf16 := M.slice (rect k) (fun _ => rfl)

/-- The operations of this kernel on a TensorCore. -/
abbrev Ops (F : FTy → Type) [FloatOps F] := TpuEff nD τ sig (Elt F) Λ₀ .tc

/-- The chunk's transfer: a buffer's chunk to the same chunk of a buffer of device `n`. -/
abbrev sendOp (n : Dev nD) (src dst : Memref sig .tc .vmem S512x512 .bf16) (hs : src.IsWhole) (hd : dst.IsWhole)
    (hsc : dst.view.ref.isScScratch = false) (S R : DmaSems sig S8) (k : Fin 8) : Ops F PUnit :=
  .enqueueDma (ch src k) (.remote (Dev.tc n : Thread nD τ) (ch dst k) (.dma (semAt S k)) hsc) (.dma (semAt R k))
    (hs.wordExact_slice rfl _ (words k)) (hd.wordExact_slice rfl _ (words k)) ⟨⟨rfl, Or.inl rfl⟩, trivial⟩

/-- Stage chunk `k` of the block in bf16 and send it to the x neighbour. -/
def xsStep (d : Dev nD) (k : Fin 8) : Prog (Ops F) PUnit := do
  let v : Vec F S64x512 .f32 ← Prog.lift (.load xM (rect k).toLoadRect (View.loadsAt_vmem h_S64x512))
  let _ ← Prog.lift (.load xsM (rect k).toLoadRect (View.loadsAt_vmem h_S64x512))
  Prog.lift (.store xsM (rect k) (k0_pay1 v) Finset.univ
    (View.stores_vmem h_S64x512 ((Memref.isWhole_whole cc0_scratch0).storeExact_slice rfl _ (packed k)) (fun _ => rfl)) (.inl rfl))
  Prog.lift (sendOp (⟨k0_dev3 d, k0_dev3_lt d⟩ : Dev nD) xsM xrM (Memref.isWhole_whole _) (Memref.isWhole_whole _) rfl cc0_scratch4 cc0_scratch5 k)

/-- Take the x neighbour's chunk `k`, add the block's, keep the sum, and send it in bf16 to the y neighbour. -/
def redStep (d : Dev nD) (k : Fin 8) : Prog (Ops F) PUnit := do
  Prog.lift (.waitDma2 (semAt cc0_scratch5 k) (ch xsM k) (ch xrM k)
    ((Memref.isWhole_whole _).wordExact_slice rfl _ (words k)) ((Memref.isWhole_whole _).wordExact_slice rfl _ (words k)))
  let v : Vec F S64x512 .f32 ← Prog.lift (.load xM (rect k).toLoadRect (View.loadsAt_vmem h_S64x512))
  let w : Vec F S64x512 .bf16 ← Prog.lift (.load xrM (rect k).toLoadRect (View.loadsAt_vmem h_S64x512))
  let _ ← Prog.lift (.load oM (rectOwn k d).toLoadRect (View.loadsAt_vmem h_S64x512))
  Prog.lift (.store oM (rectOwn k d) (k0_pay9 v w) Finset.univ (View.stores_vmem_bits_univ h_S64x512 rfl) (.inl rfl))
  let _ ← Prog.lift (.load ysM (rect k).toLoadRect (View.loadsAt_vmem h_S64x512))
  Prog.lift (.store ysM (rect k) (k0_pay10 v w) Finset.univ
    (View.stores_vmem h_S64x512 ((Memref.isWhole_whole cc0_scratch2).storeExact_slice rfl _ (packed k)) (fun _ => rfl)) (.inl rfl))
  Prog.lift (sendOp (⟨k0_dev11 d, k0_dev11_lt d⟩ : Dev nD) ysM yrM (Memref.isWhole_whole _) (Memref.isWhole_whole _) rfl cc0_scratch6 cc0_scratch7 k)

/-- Take the y neighbour's sum of chunk `k` and keep it in the other column half. -/
def outStep (d : Dev nD) (k : Fin 8) : Prog (Ops F) PUnit := do
  Prog.lift (.waitDma2 (semAt cc0_scratch7 k) (ch ysM k) (ch yrM k)
    ((Memref.isWhole_whole _).wordExact_slice rfl _ (words k)) ((Memref.isWhole_whole _).wordExact_slice rfl _ (words k)))
  let w : Vec F S64x512 .bf16 ← Prog.lift (.load yrM (rect k).toLoadRect (View.loadsAt_vmem h_S64x512))
  let _ ← Prog.lift (.load oM (rectOther k d).toLoadRect (View.loadsAt_vmem h_S64x512))
  Prog.lift (.store oM (rectOther k d) (k0_pay25 w) Finset.univ (View.stores_vmem_bits_univ h_S64x512 rfl) (.inl rfl))

/-- Wait until both of chunk `k`'s sends have left their buffers. -/
def swStep (k : Fin 8) : Prog (Ops F) PUnit := do
  Prog.lift (.waitDma2 (semAt cc0_scratch4 k) (ch xrM k) (ch xsM k)
    ((Memref.isWhole_whole _).wordExact_slice rfl _ (words k)) ((Memref.isWhole_whole _).wordExact_slice rfl _ (words k)))
  Prog.lift (.waitDma2 (semAt cc0_scratch6 k) (ch yrM k) (ch ysM k)
    ((Memref.isWhole_whole _).wordExact_slice rfl _ (words k)) ((Memref.isWhole_whole _).wordExact_slice rfl _ (words k)))

/-- A step at each chunk of a list, in order. -/
def iter (f : Fin 8 → Prog (Ops F) PUnit) : List (Fin 8) → Prog (Ops F) PUnit
  | [] => .ret ⟨⟩
  | k :: ks => f k >>= fun _ => iter f ks

abbrev ks8 : List (Fin 8) := [0, 1, 2, 3, 4, 5, 6, 7]

abbrev barS : Sem sig := (SemArray.scalar (sig.barrier 0 rfl) : Sems sig S_).sem

/-- The body: the handshake with both neighbours on the barrier semaphore, then the four loops. -/
def body : Prog (Ops F) PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  iter (xsStep d) ks8
  iter (redStep d) ks8
  iter (outStep d) ks8
  iter swStep ks8

set_option maxRecDepth 65536 in
set_option maxHeartbeats 1000000 in
/-- The printed body is `body`: both normalise to the same sequence of operations, chunk by chunk. -/
theorem body_eq : cc0_body xM (Memref.isWhole_whole _) oM (Memref.isWhole_whole _) xsM (Memref.isWhole_whole _) xrM (Memref.isWhole_whole _)
    ysM (Memref.isWhole_whole _) yrM (Memref.isWhole_whole _) cc0_scratch4 cc0_scratch5 cc0_scratch6 cc0_scratch7 = body (F := F) := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, body, iter, xsStep, redStep, outStep, swStep, semSignalWord, semWaitWord, Prog.lift, Prog.bind_op, Prog.bind_ret, Prog.pure_eq_ret]
  rfl

end Cert.Torus

end
-- ==== Proof.Proto.lean ====
/-
# `Proto`: the torus protocol — neighbours, semaphore cells, chunk values, and what each signal hands over

Four devices on a 2 × 2 torus. Each device owns one barrier cell and 32 transfer cells: four arrays (x send, x receive,
y send, y receive) of one cell per row chunk. Every cell is used for exactly one round.

* A barrier cell is raised by both neighbours. The x neighbour's signal hands over that neighbour's x landing buffer, the
  y neighbour's signal its y landing buffer, each cut into the eight chunks.
* A send cell gives the sender its chunk back; a receive cell gives the receiver the landed chunk, holding what the
  neighbour sent.
-/
module

public import proofs.«01_k».proof.Proof.Steps

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UT : Type := URounds (GSem nD τ sig) Bool
abbrev UU : Type := UR sig nD τ × UT

local notation "𝕄" => MT nD τ sig Unit (Elt F) ℕ UU ℕ

abbrev EP : Emb (UR sig nD τ) (MT nD τ sig Unit (Elt F) ℕ UU ℕ) := embL
abbrev ET : Emb UT (MT nD τ sig Unit (Elt F) ℕ UU ℕ) := embR

variable (m : (ℓ : Loc nD τ sig) → Buf (Elt F) ℓ)

/-! ## Neighbours -/

set_option backward.proofsInPublic true in
/-- The neighbour along x: the other x coordinate, the same y. -/
def px (c : Dev nD) : Dev nD := ⟨(c.val + 2) % 4, Nat.mod_lt _ (by decide)⟩
set_option backward.proofsInPublic true in
/-- The neighbour along y: the same x coordinate, the other y. -/
def py (c : Dev nD) : Dev nD := ⟨2 * (c.val / 2) + (c.val + 1) % 2, by have := c.isLt; simp only [nD] at *; omega⟩

theorem px_px (c : Dev nD) : px (px c) = c := by revert c; decide
theorem py_py (c : Dev nD) : py (py c) = c := by revert c; decide

theorem dev1_px (c : Dev nD) : (⟨k0_dev1 c, k0_dev1_lt c⟩ : Dev nD) = px c :=
  Fin.ext ((k0_dev1_eq c).trans (by revert c; decide))
theorem dev2_py (c : Dev nD) : (⟨k0_dev2 c, k0_dev2_lt c⟩ : Dev nD) = py c :=
  Fin.ext ((k0_dev2_eq c).trans (by revert c; decide))
theorem dev3_px (c : Dev nD) : (⟨k0_dev3 c, k0_dev3_lt c⟩ : Dev nD) = px c :=
  Fin.ext ((k0_dev3_eq c).trans (by revert c; decide))
theorem dev11_py (c : Dev nD) : (⟨k0_dev11 c, k0_dev11_lt c⟩ : Dev nD) = py c :=
  Fin.ext ((k0_dev11_eq c).trans (by revert c; decide))

def flipX : Dev nD ≃ Dev nD := ⟨px, px, px_px, px_px⟩
def flipY : Dev nD ≃ Dev nD := ⟨py, py, py_py, py_py⟩

/-! ## Cells -/

/-- The four arrays of transfer semaphores: x send, x receive, y send, y receive. -/
abbrev semArr : Fin 4 → DmaSems sig S8
  | 0 => cc0_scratch4 | 1 => cc0_scratch5 | 2 => cc0_scratch6 | 3 => cc0_scratch7

/-- The names of a device's cells: the barrier, or array and chunk of a transfer cell. -/
abbrev Slot : Type := Option (Fin 4 × Fin 8)

/-- The transfer semaphores alone: these are scoped to the launch; -/
abbrev osem (q : Fin 4 × Fin 8) : SemLoc sig := .dma (semAt (semArr q.1) q.2)
/-- with the barrier, which is not. -/
abbrev csem : Slot → SemLoc sig | none => .reg barS | some q => osem q

abbrev barCell (c : Dev nD) : GSem nD τ sig := ((c : Thread nD τ), .reg barS)
abbrev dcell (c : Dev nD) (a : Fin 4) (k : Fin 8) : GSem nD τ sig := ((c : Thread nD τ), .dma (semAt (semArr a) k))
abbrev kcell (ck : Dev nD × Slot) : GSem nD τ sig := ((ck.1 : Thread nD τ), csem ck.2)

/-- Which slot a semaphore is, if it is one of this protocol's. -/
def slotOf (s : SemLoc sig) : Option Slot :=
  if s = .reg barS then some none
  else (List.finRange 4 ×ˢ List.finRange 8).findSome? fun q => if s = osem q then some (some q) else none

theorem slotOf_bar : slotOf (.reg barS) = some none := if_pos rfl
theorem slotOf_dma (a : Fin 4) (k : Fin 8) : slotOf (.dma (semAt (semArr a) k)) = some (some (a, k)) := by
  revert a k; decide
theorem slotOf_csem (s : Slot) : slotOf (csem s) = some s := by
  rcases s with _ | ⟨a, k⟩
  · exact slotOf_bar
  · exact slotOf_dma a k
theorem csem_inj : Function.Injective csem := fun s t h =>
  Option.some.inj ((slotOf_csem s).symm.trans ((congrArg slotOf h).trans (slotOf_csem t)))
theorem kcell_inj : Function.Injective kcell := fun x y h => by
  obtain ⟨c, s⟩ := x; obtain ⟨d, t⟩ := y
  obtain rfl : c = d := congrArg (fun g : GSem nD τ sig => g.1.1) h
  obtain rfl : s = t := csem_inj (congrArg (fun g : GSem nD τ sig => g.2) h)
  rfl

/-- The credit of one chunk's transfer. -/
abbrev N : ℕ := (ch xrM 0).view.dmaCredit
theorem N_pos : 0 < N := View.dmaCredit_pos _ (by decide)

/-! ## What each chunk holds -/

/-- Device `c`'s block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- Chunk `k` of device `c`'s block; -/
def xV (c : Dev nD) (k : Fin 8) : Vec F S64x512 .f32 := xM.view.readAt (Elt F) (rect k).toLoadRect (xstg m c)
/-- what it sends along x: that in bf16; -/
def xsV (c : Dev nD) (k : Fin 8) : Vec F S64x512 .bf16 := k0_pay1 (xV m c k)
/-- its reduced chunk: its own plus the x neighbour's; -/
def redV (c : Dev nD) (k : Fin 8) : Vec F S64x512 .f32 := k0_pay9 (xV m c k) (xsV m (px c) k)
/-- what it sends along y: the reduced chunk in bf16; -/
def ysV (c : Dev nD) (k : Fin 8) : Vec F S64x512 .bf16 := k0_pay10 (xV m c k) (xsV m (px c) k)
/-- and the reduced chunk it receives along y, widened. -/
def farV (c : Dev nD) (k : Fin 8) : Vec F S64x512 .f32 := k0_pay25 (ysV m (py c) k)

/-- Device `c` owns chunk `k` of buffer `M`, and it holds `X`. -/
def chO (c : Dev nD) (M : Memref sig .tc .vmem S512x512 .bf16) (k : Fin 8) (X : Vec F S64x512 .bf16) : sProp 𝕄 :=
  owns (c : Thread nD τ) (ch M k) fullShare X
/-- Device `c` owns the piece `r` of the result block, and it holds `X`. -/
def oO (c : Dev nD) (M : Memref sig .tc .vmem S64x512 .f32) (X : Vec F S64x512 .f32) : sProp 𝕄 :=
  owns (c : Thread nD τ) M fullShare X

abbrev oOwn (k : Fin 8) (d : Dev nD) : Memref sig .tc .vmem S64x512 .f32 := oM.slice (rectOwn k d) (fun _ => rfl)
abbrev oFar (k : Fin 8) (d : Dev nD) : Memref sig .tc .vmem S64x512 .f32 := oM.slice (rectOther k d) (fun _ => rfl)

instance chO_storable (c : Dev nD) (M) (k : Fin 8) (X) : BI.Storable (upEmb : UEmb _ 𝕄) (chO (F := F) c M k X) := by
  unfold chO; infer_instance

/-! ## The schedule -/

/-- What the two signals on `c`'s barrier hand it: (`false`) the x neighbour's x landing chunks, (`true`) the y neighbour's
    y landing chunks. -/
def barPay (c : Dev nD) (d : Bool) : sProp 𝕄 :=
  if d then bigSep Finset.univ fun k => iprop(∃ X, chO (py c) yrM k X)
  else bigSep Finset.univ fun k => iprop(∃ X, chO (px c) xrM k X)

/-- What each transfer cell hands its device. -/
def dmaPay (c : Dev nD) (a : Fin 4) (k : Fin 8) : sProp 𝕄 :=
  match a with
  | 0 => chO c xsM k (xsV m c k)
  | 1 => chO c xrM k (xsV m (px c) k)
  | 2 => chO c ysM k (ysV m c k)
  | 3 => chO c yrM k (ysV m (py c) k)

instance barPay_storable (c : Dev nD) (d : Bool) : BI.Storable (upEmb : UEmb _ 𝕄) (barPay (F := F) c d) := by
  unfold barPay; split <;> infer_instance
instance dmaPay_storable (c : Dev nD) (a : Fin 4) (k : Fin 8) : BI.Storable (upEmb : UEmb _ 𝕄) (dmaPay m c a k) := by
  unfold dmaPay; split <;> infer_instance

/-- The duties, amounts and payloads of a slot. -/
def slotDuties : Option Slot → Finset Bool | some none => Finset.univ | some (some _) => {false} | none => ∅
def slotAmount : Option Slot → ℕ | some none => 1 | _ => N
def slotPay (c : Dev nD) (d : Bool) : Option Slot → sProp 𝕄
  | some none => barPay c d
  | some (some q) => dmaPay m c q.1 q.2
  | none => iprop(emp)

theorem slotAmount_pos (s : Option Slot) : 0 < slotAmount s := by
  rcases s with _ | _ | _
  exacts [N_pos, Nat.one_pos, N_pos]

/-- The protocol: one round per cell. -/
def torus : Rounds.Schedule (GSem nD τ sig) Bool 𝕄 where
  duties g r := if r = 0 ∧ g.1.2 = .tc then slotDuties (slotOf g.2) else ∅
  unitless _ := False
  amount g _ _ := slotAmount (slotOf g.2)
  payload g _ d := slotPay m g.1.1 d (slotOf g.2)
  amount_pos g _ _ _ := slotAmount_pos _

instance torus_storable (g : GSem nD τ sig) (r : ℕ) (d : Bool) : BI.Storable (upEmb : UEmb _ 𝕄) ((torus m).payload g r d) := by
  show BI.Storable upEmb (slotPay m g.1.1 d (slotOf g.2))
  unfold slotPay
  split <;> infer_instance

section Sched
variable (c : Dev nD) (a : Fin 4) (k : Fin 8)

theorem duties_zero (g : GSem nD τ sig) (h : g.1.2 = .tc) : (torus m).duties g 0 = slotDuties (slotOf g.2) := by
  dsimp only [torus]; rw [if_pos ⟨rfl, h⟩]
theorem duties_bar : (torus m).duties (barCell c) 0 = Finset.univ := by
  rw [duties_zero m (barCell c) rfl, slotOf_bar]; rfl
theorem duties_dma : (torus m).duties (dcell c a k) 0 = {false} := by
  rw [duties_zero m (dcell c a k) rfl, slotOf_dma]; rfl
theorem duties_later (g : GSem nD τ sig) : ∀ r, 1 ≤ r → (torus m).duties g r = ∅ :=
  fun r hr => if_neg fun h => by omega
theorem amount_bar (d : Bool) : (torus m).amount (barCell c) 0 d = 1 := by
  show slotAmount (slotOf (.reg barS)) = 1
  rw [slotOf_bar]; rfl
theorem amount_dma (d : Bool) : (torus m).amount (dcell c a k) 0 d = N := by
  show slotAmount (slotOf (.dma (semAt (semArr a) k))) = N
  rw [slotOf_dma]; rfl
theorem payload_bar (d : Bool) : (torus m).payload (barCell c) 0 d = barPay c d := by
  show slotPay m c d (slotOf (.reg barS)) = _
  rw [slotOf_bar]; rfl
theorem payload_dma (d : Bool) : (torus m).payload (dcell c a k) 0 d = dmaPay m c a k := by
  show slotPay m c d (slotOf (.dma (semAt (semArr a) k))) = _
  rw [slotOf_dma]; rfl

theorem expect_bar : (torus m).expect (barCell c) 0 = 2 := by
  unfold Schedule.expect Schedule.amountOf
  rw [duties_bar, Finset.sum_congr rfl fun d _ => amount_bar m c d]; rfl
theorem expect_dma : (torus m).expect (dcell c a k) 0 = N := by
  unfold Schedule.expect Schedule.amountOf
  rw [duties_dma, Finset.sum_singleton, amount_dma]

/-- All that the barrier's round hands over: both neighbours' landing chunks. -/
theorem rest_bar : bigSep ((torus m).duties (barCell c) 0 \ ∅) (fun d => (torus m).payload (barCell c) 0 d)
    = iprop(barPay c false ∗ barPay c true) := by
  rw [Finset.sdiff_empty, duties_bar, bigSep_univ_eq_bigSepL [false, true] (by decide) (by decide), bigSepL_cons_cons,
    bigSepL_singleton, payload_bar, payload_bar]
  rfl
theorem rest_dma : bigSep ((torus m).duties (dcell c a k) 0 \ ∅) (fun d => (torus m).payload (dcell c a k) 0 d)
    = dmaPay m c a k := by
  rw [Finset.sdiff_empty, duties_dma, bigSep_singleton, payload_dma]

end Sched

/-! ## What each core owes; the levels -/

/-- A core's dues at a list of chunks of one array of cells of device `n`, one chunk's credit each. -/
def due (n : Dev nD) (a : Fin 4) (ks : List (Fin 8)) : CellTallies nD τ sig Unit :=
  (ks.map fun k => tallyAt (dcell n a k) () N).sum

theorem due_nil (n : Dev nD) (a : Fin 4) : due n a [] = 0 := rfl
theorem due_cons (n : Dev nD) (a : Fin 4) (k : Fin 8) (ks : List (Fin 8)) :
    due n a (k :: ks) = tallyAt (dcell n a k) () N + due n a ks := by
  unfold due; rw [List.map_cons, List.sum_cons]

theorem due_peel (n : Dev nD) (a : Fin 4) (k : Fin 8) (ks : List (Fin 8)) :
    due n a (k :: ks) = due n a ks + tallyAt (dcell n a k) () N := by rw [due_cons, add_comm]

/-- After the handshake a device owes its x neighbour's receive cells at `ks`, and all its y neighbour's. -/
def oX (c : Dev nD) (ks : List (Fin 8)) : CellTallies nD τ sig Unit := due (px c) 1 ks + due (py c) 3 ks8
theorem oX_cons (c : Dev nD) (k : Fin 8) (ks : List (Fin 8)) : oX c (k :: ks) = oX c ks + tallyAt (dcell (px c) 1 k) () N := by
  unfold oX; rw [due_peel, add_right_comm]
/-- At launch, besides, one unit to each neighbour's barrier. -/
def oB (c : Dev nD) : CellTallies nD τ sig Unit := oX c ks8 + tallyAt (barCell (py c)) () 1
def O₀ (c : Dev nD) : CellTallies nD τ sig Unit := oB c + tallyAt (barCell (px c)) () 1

def L (g : GSem nD τ sig) : Finset Unit := if g.1.2 = .tc then {()} else ∅

/-- Levels: the barrier at 1, the x receive cells at 2, the y receive cells at 3, all else at 0. -/
def slotLv : Option Slot → ℕ
  | some none => 1
  | some (some q) => if q.1 = 1 then 2 else if q.1 = 3 then 3 else 0
  | none => 0
def lv (g : GSem nD τ sig) (_ : Unit) : ℕ := slotLv (slotOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by
  show slotLv (slotOf (.reg barS)) = 1; rw [slotOf_bar]; rfl
theorem lv_dma (c : Dev nD) (a : Fin 4) (k : Fin 8) (u : Unit) : lv (dcell c a k) u = if a = 1 then 2 else if a = 3 then 3 else 0 := by
  show slotLv (slotOf (.dma (semAt (semArr a) k))) = _; rw [slotOf_dma]; rfl

/-- All cells `O` owes lie above level `n`, on TensorCores. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {g : GSem nD τ sig} {j : ℕ} (hL : () ∈ L g) (hl : n < lv g ()) : Above n (tallyAt g () j) := fun g' u hg => by
  rw [tallyAt_apply] at hg
  by_cases h : g' = g ∧ u = ()
  · rw [h.1]; exact ⟨hL, hl⟩
  · rw [if_neg h] at hg; exact absurd hg (Nat.lt_irrefl 0)
theorem above_due {n : ℕ} {a : Fin 4} (c : Dev nD) (hl : ∀ k, n < lv (dcell c a k) ()) (ks : List (Fin 8)) : Above n (due c a ks) := by
  induction ks with
  | nil => exact above_zero n
  | cons k ks ih =>
    rw [due_cons]
    exact above_add (above_tally (by rw [L_tc]; exact Finset.mem_singleton_self _) (hl k)) ih

theorem above_dueX (c : Dev nD) (ks : List (Fin 8)) : Above 1 (due c 1 ks) := above_due c (fun k => by rw [lv_dma]; decide) ks
theorem above_dueY {n : ℕ} (hn : n < 3) (c : Dev nD) (ks : List (Fin 8)) : Above n (due c 3 ks) := above_due c (fun k => by rw [lv_dma]; exact hn) ks
theorem above_oX (c : Dev nD) (ks : List (Fin 8)) : Above 1 (oX c ks) := above_add (above_dueX _ _) (above_dueY (by decide) _ _)
theorem Above.mono {n n' : ℕ} (h : n' ≤ n) {O : CellTallies nD τ sig Unit} (hO : Above n O) : Above n' O :=
  fun g u hg => ⟨(hO g u hg).1, lt_of_le_of_lt h (hO g u hg).2⟩
theorem above_O₀ (c : Dev nD) : Above 0 (O₀ c) := by
  have hb (d : Dev nD) : Above 0 (tallyAt (barCell d) () 1) :=
    above_tally (by rw [L_tc]; exact Finset.mem_singleton_self _) (by rw [lv_bar]; decide)
  exact above_add (above_add ((above_oX c ks8).mono (by decide)) (hb _)) (hb _)

/-- A device may wait at a cell of its own whose level is below all it owes. -/
theorem mayWait (c : Dev nD) (sm : SemLoc sig) (n : ℕ) (O : CellTallies nD τ sig Unit) (hs : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

/-! ## The invariants, for every cell of every device -/

/-- One cell's invariant, and that it has reached its round. -/
abbrev recAt (K : Dev nD × Slot → ℕ) (ck : Dev nD × Slot) : sProp 𝕄 :=
  iprop(cellInv ET (torus m) (K ck) (kcell ck) ∗ reached ET (kcell ck) 0)
/-- Every cell's invariant under the names the launch allocated, that every cell has reached its round, and the levels. -/
def records (K : Dev nD × Slot → ℕ) : sProp 𝕄 :=
  iprop(levAts L lv ∗ bigSep Finset.univ (recAt m K))

instance records_persistent (K : Dev nD × Slot → ℕ) : BI.Persistent (records m K) := by unfold records; infer_instance

theorem records_lev (K : Dev nD × Slot → ℕ) : records m K ⊢ levAts L lv := by
  unfold records; iintro ⟨H, -⟩; iexact H
theorem records_at (K : Dev nD × Slot → ℕ) (ck : Dev nD × Slot) : records m K ⊢ recAt m K ck :=
  (show records m K ⊢ bigSep Finset.univ (recAt m K) by unfold records; iintro ⟨-, H⟩; iexact H).trans (bigSep_elim (Finset.mem_univ ck))
theorem records_inv (K : Dev nD × Slot → ℕ) (ck : Dev nD × Slot) : records m K ⊢ cellInv ET (torus m) (K ck) (kcell ck) :=
  (records_at m K ck).trans (by iintro ⟨H, -⟩; iexact H)
theorem records_reached (K : Dev nD × Slot → ℕ) (ck : Dev nD × Slot) : records m K ⊢ reached ET (kcell ck) 0 :=
  (records_at m K ck).trans (by iintro ⟨-, H⟩; iexact H)

end Cert.Torus

end
-- ==== Proof.Loops.lean ====
/-
# `Loops`: the rules one chunk's step is run by, and the rule for a loop over chunks

The two communication rules of the protocol — send a chunk to a neighbour; wait at a cell of one's own, take what it
hands over, and close it — and the rule that a loop over a list of chunks carries an invariant through, turning each
chunk's precondition into its postcondition.
-/
module

public import proofs.«01_k».proof.Proof.Proto

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Core `c` runs `p` to a state where `Q` holds. -/
abbrev run {α : Type} (c : Dev nD) (p : Prog (Ops F) α) (Q : α → sProp 𝕄) : sProp 𝕄 :=
  wp frame (wpE (defs₀ (F := F)) 𝒱₀ (c : Thread nD τ) none) Set.univ p Q

/-- Core `c` owes `O`, whatever it has waited for. -/
def ow (c : Dev nD) (O : CellTallies nD τ sig Unit) : sProp 𝕄 := iprop(∃ W, owes (c : Thread nD τ) O W)

/-! ## A loop over a list of chunks -/

/-- `Φ` at every chunk of a list. -/
def all (Φ : Fin 8 → sProp 𝕄) : List (Fin 8) → sProp 𝕄
  | [] => iprop(emp)
  | k :: ks => iprop(Φ k ∗ all Φ ks)

theorem all_cons (Φ : Fin 8 → sProp 𝕄) (k : Fin 8) (ks : List (Fin 8)) : all Φ (k :: ks) = iprop(Φ k ∗ all Φ ks) := rfl

theorem all_eq (Φ : Fin 8 → sProp 𝕄) : ∀ ks : List (Fin 8), ks.Nodup → all Φ ks = bigSep ks.toFinset Φ
  | [], _ => bigSep_empty.symm
  | k :: ks, h => by
    rw [List.toFinset_cons, bigSep_insert (fun h' => (List.nodup_cons.mp h).1 (List.mem_toFinset.mp h')),
      ← all_eq Φ ks (List.nodup_cons.mp h).2]
    rfl

/-- At the whole list of chunks it is the separating conjunction over all chunks. -/
theorem all_ks8 (Φ : Fin 8 → sProp 𝕄) : all Φ ks8 = bigSep Finset.univ Φ := by
  rw [all_eq Φ ks8 (by decide)]; exact congrArg (fun s => bigSep s Φ) (by decide)

/-- If the step at `k` carries the invariant from `k :: ks` to `ks` and turns `Pre k` into `Post k`, the loop carries it to
    the empty list and turns every `Pre` into `Post`. -/
theorem run_iter (c : Dev nD) (R : List (Fin 8) → sProp 𝕄) (Pre Post : Fin 8 → sProp 𝕄) (f : Fin 8 → Prog (Ops F) PUnit)
    (h : ∀ k ks, iprop(R (k :: ks) ∗ Pre k) ⊢ run c (f k) fun _ => iprop(R ks ∗ Post k)) :
    ∀ ks, iprop(R ks ∗ all Pre ks) ⊢ run c (iter f ks) fun _ => iprop(R [] ∗ all Post ks)
  | [] => by
    show _ ⊢ run c (.ret PUnit.unit) _
    unfold run; rw [wp_ret]
    iintro H; imodintro; iexact H
  | k :: ks => by
    show _ ⊢ run c (f k >>= fun _ => iter f ks) _
    unfold run; rw [wp_bind]
    have ih := run_iter c R Pre Post f h ks
    refine (show _ ⊢ iprop(iprop(R (k :: ks) ∗ Pre k) ∗ all Pre ks) by
      rw [all_cons]; iintro ⟨H1, H2, H3⟩
      isplitl [H1 H2]
      · isplitl [H1] <;> iassumption
      · iexact H3).trans ?_
    refine (sep_mono_left (h k ks)).trans ((wp_frame_r _ _ _).trans (wp_mono _ _ _ fun _ => ?_))
    refine (show _ ⊢ iprop(iprop(R ks ∗ all Pre ks) ∗ Post k) by
      iintro ⟨⟨H1, H2⟩, H3⟩
      isplitl [H1 H3]
      · isplitl [H1] <;> iassumption
      · iexact H2).trans ?_
    refine (sep_mono_left ih).trans ((wp_frame_r _ _ _).trans (wp_mono _ _ _ fun _ => ?_))
    show _ ⊢ iprop(R [] ∗ (Post k ∗ all Post ks))
    iintro ⟨⟨H1, H2⟩, H3⟩
    isplitl [H1]; · iexact H1
    isplitl [H3] <;> iassumption

/-! ## Sending a chunk, waiting at a cell -/

variable (K : Dev nD × Slot → ℕ)

/-- Sending chunk `k`, holding `X`, to device `n`: the source chunk and the landing chunk are given up, one chunk's credit at
    `n`'s receive cell is no longer owed, and the send cell's credit is had. -/
theorem run_send (c n n' : Dev nD) (hn : n' = n) (src dst : Memref sig .tc .vmem S512x512 .bf16) (hs : src.IsWhole) (hd : dst.IsWhole)
    (hsc : dst.view.ref.isScScratch = false) (aS aR : Fin 4) (k : Fin 8) (X : Vec F S64x512 .bf16) (hN : (ch dst k).view.dmaCredit = N)
    (hpS : dmaPay m c aS k = chO c src k X) (hpR : dmaPay m n aR k = chO n dst k X)
    {O₁ : CellTallies nD τ sig Unit} (O : CellTallies nD τ sig Unit) (hO : O₁ = O + tallyAt (dcell n aR k) () N)
    {kont : PUnit → Prog (Ops F) PUnit} {Q : PUnit → sProp 𝕄} :
    iprop(records m K ∗ chO c src k X ∗ (∃ Y, chO n dst k Y) ∗ ow c O₁
        ∗ dutyTok ET (dcell c aS k) 0 false ∗ dutyTok ET (dcell n aR k) 0 false)
      ⊢ iprop(((cred (tallyAt (dcell c aS k) () N) ∗ ow c O) -∗ run c (kont ⟨⟩) Q)
          -∗ run c (.op (sendOp n' src dst hs hd hsc (semArr aS) (semArr aR) k) kont) Q) := by
  subst hn
  unfold ow
  iintro ⟨#Hrec, Hsrc, ⟨%Y, Hdst⟩, ⟨%W, HO⟩, HtS, HtR⟩ Hk
  unfold chO owns
  icases Hsrc with ⟨%fs, %hfs, Hsrc⟩
  icases Hdst with ⟨%fd, -, Hdst⟩
  iapply (Rounds.wp_send_pointsTo 𝒱₀ ET (torus m) (c : Thread nD τ) none (κ₁ := K (c, some (aS, k))) (κ₂ := K (n', some (aR, k)))
    (r₁ := 0) (r₂ := 0) (d₁ := false) (d₂ := false) (fs := fs) (fd := fd)
    (by rw [duties_dma]; exact Finset.mem_singleton_self _) (by rw [duties_dma]; exact Finset.mem_singleton_self _)
    () () N (show (ch dst k).view.amount (.dma (semAt (semArr aR) k)) = N from hN) (amount_dma m c aS k false) (amount_dma m n' aR k false) O hO (W := W)
    (by
      rw [payload_dma, hpS]; unfold chO owns
      iintro H; iexists fs
      isplitr; · ipureintro; exact hfs
      iexact H)
    (by
      rw [payload_dma, hpR]; unfold chO owns
      iintro H; iexists _
      isplitr
      rotate_left
      · iexact H
      · ipureintro; rw [View.read_write_univ]; exact hfs)) $$ [Hsrc Hdst HO HtS HtR]
  · isplitr; · iapply (records_inv m K (c, some (aS, k))); iexact Hrec
    isplitr; · iapply (records_inv m K (n', some (aR, k))); iexact Hrec
    isplitl [Hsrc]; · iexact Hsrc
    isplitl [Hdst]; · iexact Hdst
    isplitl [HO]; · iexact HO
    isplitl [HtS]; · iexact HtS
    isplitr; · iapply (records_reached m K (c, some (aS, k))); iexact Hrec
    isplitl [HtR]; · iexact HtR
    iapply (records_reached m K (n', some (aR, k))); iexact Hrec
  iintro ⟨Hc, HO⟩
  iapply Hk
  isplitl [Hc]; · iexact Hc
  iexists W; iexact HO

/-- Waiting at one of the device's own transfer cells, while all it owes lies above that cell: it gets what the cell hands
    over, and the cell, closed, at zero. -/
theorem run_wait (c : Dev nD) (a : Fin 4) (k : Fin 8) (n : ℕ) (O : CellTallies nD τ sig Unit) (hs : (if a = 1 then 2 else if a = 3 then 3 else 0) ≤ n)
    (hO : Above n O) (src dst : Memref sig .tc .vmem S64x512 .bf16) (hsrc : src.view.WordExact) (hdst : dst.view.WordExact)
    (hN : dst.view.dmaCredit = N)
    {kont : PUnit → Prog (Ops F) PUnit} {Q : PUnit → sProp 𝕄} :
    iprop(records m K ∗ cred (tallyAt (dcell c a k) () N) ∗ ow c O ∗ atPos ET (dcell c a k) 0 ∅ 0)
      ⊢ iprop(((ow c O ∗ dmaPay m c a k ∗ semVal (dcell c a k) 0) -∗ run c (kont ⟨⟩) Q)
          -∗ run c (.op (.waitDma2 (semAt (semArr a) k) src dst hsrc hdst) kont) Q) := by
  unfold ow
  iintro ⟨#Hrec, Hc, ⟨%W, HO⟩, Hat⟩ Hk
  iapply (Rounds.wp_wait_rest_token 𝒱₀ ET (torus m) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_dma])) $$ [Hc HO Hat]
  · isplitr; · iapply (records_inv m K (c, some (a, k))); iexact Hrec
    isplitl [Hc]; · rw [hN]; iexact Hc
    isplitl [HO]; · iexact HO
    isplitr
    · iapply (mayWait (F := F) c _ n O ((lv_dma c a k ()).trans_le hs) hO); iapply (records_lev m K); iexact Hrec
    iexact Hat
  iintro ⟨HO, Hat, -, Hpay⟩
  ihave Hpay := (Entails.of_eq (rest_dma m c a k)) $$ Hpay
  imod (Rounds.cell_close ET (torus m) (Set.mem_univ (K (c, some (a, k)))) (fun h => h) (R := 0 + 1) (duties_later m (dcell c a k))) $$ [Hat] with Hz
  · isplitr; · iapply (records_inv m K (c, some (a, k))); iexact Hrec
    iexact Hat
  iapply Hk
  isplitl [HO]; · iexists _; iexact HO
  isplitl [Hpay]; · iexact Hpay
  iexact Hz

end Cert.Torus

end
-- ==== Proof.Chunk.lean ====
/-
# `Chunk`: what each of the four steps does to one chunk

One lemma per step of the body: what the step needs of chunk `k`, and what it leaves. Besides, each loop carries a device's
block of `x` and what the device still owes.
-/
module

public import proofs.«01_k».proof.Proof.Loops

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## Loads and stores of a chunk -/

/-- Device `c`'s staged block of `x`. -/
def xPts (c : Dev nD) : sProp 𝕄 := xM.view.loc (c : Thread nD τ) ↦{fullShare} xstg m c

/-- Loading chunk `k` of the block gives `xV`. -/
theorem run_loadX (c : Dev nD) (k : Fin 8) {hl : xM.view.LoadsAt (rect k).toLoadRect} {α : Type}
    {kont : Vec F S64x512 .f32 → Prog (Ops F) α} {Q : α → sProp 𝕄} :
    xPts m c ⊢ iprop((xPts m c -∗ run c (kont (xV m c k)) Q) -∗ run c (.op (.load xM (rect k).toLoadRect hl) kont) Q) := by
  unfold xPts xV
  exact wp_load 𝒱₀ (c : Thread nD τ) none Set.univ (m := xM) (Finset.subset_univ _)

/-- Loading chunk `k` of a bf16 buffer gives what it holds. -/
theorem run_loadCh (c : Dev nD) (M : Memref sig .tc .vmem S512x512 .bf16) (k : Fin 8) (X : Vec F S64x512 .bf16)
    {hl : M.view.LoadsAt (rect k).toLoadRect} {α : Type} {kont : Vec F S64x512 .bf16 → Prog (Ops F) α} {Q : α → sProp 𝕄} :
    chO c M k X ⊢ iprop((chO c M k X -∗ run c (kont X) Q) -∗ run c (.op (.load M (rect k).toLoadRect hl) kont) Q) := by
  unfold chO owns
  iintro ⟨%f, %hf, H⟩ Hk
  iapply (wp_load_rect 𝒱₀ (c : Thread nD τ) none Set.univ (m := M) (r := rect k) (Finset.Subset.refl _)) $$ H; iintro H
  rw [show (M.access (rect k)).read (Elt F) f = X from hf]
  iapply Hk
  iexists f
  isplitr; · ipureintro; exact hf
  iexact H

/-- Storing a chunk of a bf16 buffer makes it hold the stored value. -/
theorem run_storeCh (c : Dev nD) (M : Memref sig .tc .vmem S512x512 .bf16) (k : Fin 8) (X w : Vec F S64x512 .bf16)
    {hx : (M.access (rect k)).Stores Finset.univ} {hm : (Finset.univ : Finset (rect k).shape.Idx) = Finset.univ ∨ ∀ a, (rect k).stride a = 1}
    {α : Type} {kont : PUnit → Prog (Ops F) α} {Q : α → sProp 𝕄} :
    chO c M k X ⊢ iprop((chO c M k w -∗ run c (kont ⟨⟩) Q) -∗ run c (.op (.store M (rect k) w Finset.univ hx hm) kont) Q) := by
  unfold chO owns
  iintro ⟨%f, -, H⟩ Hk
  iapply (wp_store 𝒱₀ (c : Thread nD τ) none Set.univ (m := M) (r := rect k) (Mk := Finset.univ) (S := (ch M k).view.set)
    (Finset.Subset.refl _)) $$ H; iintro H
  iapply Hk
  iexists _
  isplitr
  rotate_left
  · iexact H
  · ipureintro; exact View.read_write_univ _ _

/-- Loading a piece of the result block changes nothing; what it reads is not used. -/
theorem run_loadO (c : Dev nD) (r : Rect S512x1024) (hr : ∀ a, r.stride a = 1) (X : r.shape.Idx → Elt F .f32)
    {hl : oM.view.LoadsAt r.toLoadRect} {α : Type} {kont : (r.shape.Idx → Elt F .f32) → Prog (Ops F) α} {Q : α → sProp 𝕄} :
    owns (c : Thread nD τ) (oM.slice r hr) fullShare X
      ⊢ iprop((owns (c : Thread nD τ) (oM.slice r hr) fullShare X -∗ run c (kont X) Q) -∗ run c (.op (.load oM r.toLoadRect hl) kont) Q) := by
  unfold owns
  iintro ⟨%f, %hf, H⟩ Hk
  iapply (wp_load_rect 𝒱₀ (c : Thread nD τ) none Set.univ (m := oM) (r := r) (Finset.Subset.refl _)) $$ H; iintro H
  rw [show (oM.access r).read (Elt F) f = X from hf]
  iapply Hk
  iexists f
  isplitr; · ipureintro; exact hf
  iexact H

/-- Storing a piece of the result block makes it hold the stored value. -/
theorem run_storeO (c : Dev nD) (r : Rect S512x1024) (hr : ∀ a, r.stride a = 1) (X w : r.shape.Idx → Elt F .f32)
    {hx : (oM.access r).Stores Finset.univ} {hm : (Finset.univ : Finset r.shape.Idx) = Finset.univ ∨ ∀ a, r.stride a = 1}
    {α : Type} {kont : PUnit → Prog (Ops F) α} {Q : α → sProp 𝕄} :
    owns (c : Thread nD τ) (oM.slice r hr) fullShare X
      ⊢ iprop((owns (c : Thread nD τ) (oM.slice r hr) fullShare w -∗ run c (kont ⟨⟩) Q) -∗ run c (.op (.store oM r w Finset.univ hx hm) kont) Q) := by
  unfold owns
  iintro ⟨%f, -, H⟩ Hk
  iapply (wp_store 𝒱₀ (c : Thread nD τ) none Set.univ (m := oM) (r := r) (Mk := Finset.univ) (S := (oM.slice r hr).view.set)
    (Finset.Subset.refl _)) $$ H; iintro H
  iapply Hk
  iexists _
  isplitr
  rotate_left
  · iexact H
  · ipureintro; exact View.read_write_univ _ _

/-! ## The steps -/

/-- What a loop carries: the protocol's records, the block of `x`, and what is still owed. -/
def carry (c : Dev nD) (O : CellTallies nD τ sig Unit) : sProp 𝕄 := iprop(records m K ∗ xPts m c ∗ ow c O)

/-- Before chunk `k` is sent along x: its bf16 copy's place, the x neighbour's landing chunk, the two tokens. -/
def pre1 (c : Dev nD) (k : Fin 8) : sProp 𝕄 :=
  iprop((∃ X, chO c xsM k X) ∗ (∃ X, chO (px c) xrM k X) ∗ dutyTok ET (dcell c 0 k) 0 false ∗ dutyTok ET (dcell (px c) 1 k) 0 false)
/-- After: the send cell's credit. -/
def post1 (c : Dev nD) (k : Fin 8) : sProp 𝕄 := cred (tallyAt (dcell c 0 k) () N)

/-- Before chunk `k` is reduced: the x receive cell's credit and position, the places written, the y neighbour's landing chunk,
    the two tokens. -/
def pre2 (c : Dev nD) (k : Fin 8) : sProp 𝕄 :=
  iprop(cred (tallyAt (dcell c 1 k) () N) ∗ atPos ET (dcell c 1 k) 0 ∅ 0
    ∗ (∃ X, oO c (oOwn k c) X) ∗ (∃ X, chO c ysM k X) ∗ (∃ X, chO (py c) yrM k X)
    ∗ dutyTok ET (dcell c 2 k) 0 false ∗ dutyTok ET (dcell (py c) 3 k) 0 false)
/-- After: the landed chunk, the reduced chunk in the result block, the send cell's credit, the receive cell closed. -/
def post2 (c : Dev nD) (k : Fin 8) : sProp 𝕄 :=
  iprop(chO c xrM k (xsV m (px c) k) ∗ oO c (oOwn k c) (redV m c k) ∗ cred (tallyAt (dcell c 2 k) () N) ∗ semVal (dcell c 1 k) 0)

/-- Before the y neighbour's chunk `k` is kept: the y receive cell's credit and position, the place written. -/
def pre3 (c : Dev nD) (k : Fin 8) : sProp 𝕄 :=
  iprop(cred (tallyAt (dcell c 3 k) () N) ∗ atPos ET (dcell c 3 k) 0 ∅ 0 ∗ (∃ X, oO c (oFar k c) X))
/-- After: the landed chunk, the neighbour's reduced chunk in the result block, the receive cell closed. -/
def post3 (c : Dev nD) (k : Fin 8) : sProp 𝕄 :=
  iprop(chO c yrM k (ysV m (py c) k) ∗ oO c (oFar k c) (farV m c k) ∗ semVal (dcell c 3 k) 0)

/-- Before the sends of chunk `k` are waited for: both send cells' credits and positions. -/
def pre4 (c : Dev nD) (k : Fin 8) : sProp 𝕄 :=
  iprop(cred (tallyAt (dcell c 0 k) () N) ∗ cred (tallyAt (dcell c 2 k) () N) ∗ atPos ET (dcell c 0 k) 0 ∅ 0 ∗ atPos ET (dcell c 2 k) 0 ∅ 0)
/-- After: both sent chunks are the device's again, both send cells closed. -/
def post4 (c : Dev nD) (k : Fin 8) : sProp 𝕄 :=
  iprop(chO c xsM k (xsV m c k) ∗ chO c ysM k (ysV m c k) ∗ semVal (dcell c 0 k) 0 ∗ semVal (dcell c 2 k) 0)

theorem run_xsStep (c : Dev nD) (k : Fin 8) (ks : List (Fin 8)) :
    iprop(carry m K c (oX c (k :: ks)) ∗ pre1 c k) ⊢ run c (xsStep c k) fun _ => iprop(carry m K c (oX c ks) ∗ post1 c k) := by
  unfold carry pre1 post1 xsStep run
  simp only [Prog.lift, Prog.bind_op, Prog.bind_ret]
  iintro ⟨⟨#Hrec, Hx, HO⟩, ⟨%X, Hs⟩, Hd, HtS, HtR⟩
  iapply (run_loadX m c k) $$ Hx; iintro Hx
  iapply (run_loadCh c xsM k X) $$ Hs; iintro Hs
  iapply (run_storeCh c xsM k X (xsV m c k)) $$ Hs; iintro Hs
  iapply (run_send m K c (px c) _ (dev3_px c) xsM xrM (Memref.isWhole_whole _) (Memref.isWhole_whole _) rfl 0 1 k (xsV m c k) rfl
    rfl (by unfold dmaPay; rw [px_px]) (oX c ks) (oX_cons c k ks)) $$ [Hs Hd HO HtS HtR]
  · isplitr; · iexact Hrec
    isplitl [Hs]; · iexact Hs
    isplitl [Hd]; · iexact Hd
    isplitl [HO]; · iexact HO
    isplitl [HtS] <;> iassumption
  iintro ⟨Hc, HO⟩
  unfold run; rw [wp_ret]; imodintro
  isplitl [Hx HO]
  · isplitr; · iexact Hrec
    isplitl [Hx] <;> iassumption
  iexact Hc

theorem run_redStep (c : Dev nD) (k : Fin 8) (ks : List (Fin 8)) :
    iprop(carry m K c (due (py c) 3 (k :: ks)) ∗ pre2 c k)
      ⊢ run c (redStep c k) fun _ => iprop(carry m K c (due (py c) 3 ks) ∗ post2 m c k) := by
  unfold carry pre2 post2 redStep run
  simp only [Prog.lift, Prog.bind_op, Prog.bind_ret]
  iintro ⟨⟨#Hrec, Hx, HO⟩, Hc, Hat, ⟨%Z, Ho⟩, ⟨%X, Hs⟩, Hd, HtS, HtR⟩
  iapply (run_wait m K c 1 k 2 (due (py c) 3 (k :: ks)) (by decide) (above_dueY (by decide) _ _) (ch xsM k) (ch xrM k) _ _ rfl) $$ [Hc HO Hat]
  · isplitr; · iexact Hrec
    isplitl [Hc]; · iexact Hc
    isplitl [HO] <;> iassumption
  iintro ⟨HO, Hr, Hz⟩
  ihave Hr := (Entails.of_eq (show dmaPay m c 1 k = chO c xrM k (xsV m (px c) k) from rfl)) $$ Hr
  iapply (run_loadX m c k) $$ Hx; iintro Hx
  iapply (run_loadCh c xrM k (xsV m (px c) k)) $$ Hr; iintro Hr
  unfold oO
  iapply (run_loadO c (rectOwn k c) (fun _ => rfl) Z) $$ Ho; iintro Ho
  iapply (run_storeO c (rectOwn k c) (fun _ => rfl) Z (redV m c k)) $$ Ho; iintro Ho
  iapply (run_loadCh c ysM k X) $$ Hs; iintro Hs
  iapply (run_storeCh c ysM k X (ysV m c k)) $$ Hs; iintro Hs
  iapply (run_send m K c (py c) _ (dev11_py c) ysM yrM (Memref.isWhole_whole _) (Memref.isWhole_whole _) rfl 2 3 k (ysV m c k) rfl
    rfl (by unfold dmaPay; rw [py_py]) (due (py c) 3 ks) (due_peel (py c) 3 k ks)) $$ [Hs Hd HO HtS HtR]
  · isplitr; · iexact Hrec
    isplitl [Hs]; · iexact Hs
    isplitl [Hd]; · iexact Hd
    isplitl [HO]; · iexact HO
    isplitl [HtS] <;> iassumption
  iintro ⟨Hc, HO⟩
  unfold run; rw [wp_ret]; imodintro
  isplitl [Hx HO]
  · isplitr; · iexact Hrec
    isplitl [Hx] <;> iassumption
  isplitl [Hr]; · iexact Hr
  isplitl [Ho]; · iexact Ho
  isplitl [Hc] <;> iassumption

theorem run_outStep (c : Dev nD) (k : Fin 8) (ks : List (Fin 8)) :
    iprop(carry m K c 0 ∗ pre3 c k) ⊢ run c (outStep c k) fun _ => iprop(carry m K c 0 ∗ post3 m c k) := by
  unfold carry pre3 post3 outStep run
  simp only [Prog.lift, Prog.bind_op, Prog.bind_ret]
  iintro ⟨⟨#Hrec, Hx, HO⟩, Hc, Hat, ⟨%Z, Ho⟩⟩
  iapply (run_wait m K c 3 k 3 0 (by decide) (above_zero _) (ch ysM k) (ch yrM k) _ _ rfl) $$ [Hc HO Hat]
  · isplitr; · iexact Hrec
    isplitl [Hc]; · iexact Hc
    isplitl [HO] <;> iassumption
  iintro ⟨HO, Hr, Hz⟩
  ihave Hr := (Entails.of_eq (show dmaPay m c 3 k = chO c yrM k (ysV m (py c) k) from rfl)) $$ Hr
  iapply (run_loadCh c yrM k (ysV m (py c) k)) $$ Hr; iintro Hr
  unfold oO
  iapply (run_loadO c (rectOther k c) (fun _ => rfl) Z) $$ Ho; iintro Ho
  iapply (run_storeO c (rectOther k c) (fun _ => rfl) Z (farV m c k)) $$ Ho; iintro Ho
  unfold run; rw [wp_ret]; imodintro
  isplitl [Hx HO]
  · isplitr; · iexact Hrec
    isplitl [Hx] <;> iassumption
  isplitl [Hr]; · iexact Hr
  isplitl [Ho] <;> iassumption

theorem run_swStep (c : Dev nD) (k : Fin 8) (ks : List (Fin 8)) :
    iprop(carry m K c 0 ∗ pre4 c k) ⊢ run c (swStep k) fun _ => iprop(carry m K c 0 ∗ post4 m c k) := by
  unfold carry pre4 post4 swStep run
  simp only [Prog.lift, Prog.bind_op, Prog.bind_ret]
  iintro ⟨⟨#Hrec, Hx, HO⟩, Hc0, Hc2, Hat0, Hat2⟩
  iapply (run_wait m K c 0 k 0 0 (by decide) (above_zero _) (ch xrM k) (ch xsM k) _ _ rfl) $$ [Hc0 HO Hat0]
  · isplitr; · iexact Hrec
    isplitl [Hc0]; · iexact Hc0
    isplitl [HO] <;> iassumption
  iintro ⟨HO, Hr, Hz⟩
  iapply (run_wait m K c 2 k 0 0 (by decide) (above_zero _) (ch yrM k) (ch ysM k) _ _ rfl) $$ [Hc2 HO Hat2]
  · isplitr; · iexact Hrec
    isplitl [Hc2]; · iexact Hc2
    isplitl [HO] <;> iassumption
  iintro ⟨HO, Hr2, Hz2⟩
  ihave Hr := (Entails.of_eq (show dmaPay m c 0 k = chO c xsM k (xsV m c k) from rfl)) $$ Hr
  ihave Hr2 := (Entails.of_eq (show dmaPay m c 2 k = chO c ysM k (ysV m c k) from rfl)) $$ Hr2
  unfold run; rw [wp_ret]; imodintro
  isplitl [Hx HO]
  · isplitr; · iexact Hrec
    isplitl [Hx] <;> iassumption
  isplitl [Hr]; · iexact Hr
  isplitl [Hr2]; · iexact Hr2
  isplitl [Hz] <;> iassumption

end Cert.Torus

end
-- ==== Proof.Buffers.lean ====
/-
# `Buffers`: a buffer as its chunks, and the result block as its sixteen pieces

A 512 × 512 buffer is its eight row chunks; the 512 × 1024 result block is sixteen pieces, two column halves of eight row
chunks. Here: the geometry (the pieces are disjoint and cover), the cut of a whole buffer into owned pieces, the join back,
and `outC`, the contents the result block has when its pieces hold the reduced chunks.
-/
module

public import proofs.«01_k».proof.Proof.Loops

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Cutting and joining along a family of disjoint, covering rectangles -/

section Family

variable {s : Shape} {e : EltTy} (c : Dev nD) (M : Memref sig .tc .vmem s e) {B : Type} [Fintype B] [DecidableEq B]
  (R : B → Rect s) (hR : ∀ b a, (R b).stride a = 1)
  (hd : ∀ b b', b ≠ b' → Disjoint (R b).set (R b').set) (hc : ∀ i : s.Idx, ∃ b, i ∈ (R b).set)

/-- The elements of a buffer under one rectangle. -/
abbrev pieceSet (b : B) : Finset (Idx (M.view.loc (c : Thread nD τ))) := (M.slice (R b) (hR b)).view.set

include hc in
theorem family_cover : Finset.univ.biUnion (pieceSet c M R hR) = M.view.set := by
  ext i
  simp only [Finset.mem_biUnion, Finset.mem_univ, true_and]
  constructor
  · rintro ⟨b, hb⟩; exact View.set_slice_subset _ _ hb
  · intro hi
    obtain ⟨x, -, rfl⟩ := Finset.mem_map.mp hi
    obtain ⟨b, hb⟩ := hc x
    exact ⟨b, by
      show M.view.emb x ∈ (M.view.slice (R b)).set
      rw [View.set_slice]; exact Finset.mem_map_of_mem _ hb⟩

include hd in
theorem family_disjoint (b b' : B) (h : b ≠ b') : Disjoint (pieceSet c M R hR b) (pieceSet c M R hR b') := by
  show Disjoint (M.view.slice (R b)).set (M.view.slice (R b')).set
  rw [View.set_slice, View.set_slice, Finset.disjoint_map]
  exact hd b b' h

include hd hc in
/-- A buffer owned whole is owned piece by piece, each at some value. -/
theorem family_cut (f : Buf (Elt F) (M.view.loc (c : Thread nD τ))) :
    (M.view.loc (c : Thread nD τ) ↦[M.view.set]{fullShare} f : sProp 𝕄)
      ⊢ bigSep Finset.univ fun b => iprop(∃ X, owns (c : Thread nD τ) (M.slice (R b) (hR b)) fullShare X) := by
  rw [← family_cover c M R hR hc]
  refine (Entails.of_eq (pointsTo_biUnion Finset.univ (pieceSet c M R hR)
    (fun b _ b' _ h => family_disjoint c M R hR hd b b' h))).trans (bigSep_mono fun b _ => ?_)
  show (M.view.loc (c : Thread nD τ) ↦[pieceSet c M R hR b]{fullShare} f : sProp 𝕄)
    ⊢ iprop(∃ X, owns (c : Thread nD τ) (M.slice (R b) (hR b)) fullShare X)
  unfold owns
  iintro H
  iexists _; iexists f
  isplitr; · ipureintro; rfl
  iexact H

include hd hc in
/-- A buffer owned piece by piece is owned whole, at contents that read as each piece's value. -/
theorem family_join (X : ∀ b, (R b).shape.Idx → Elt F e) (f₀ : Buf (Elt F) (M.view.loc (c : Thread nD τ))) :
    (bigSep Finset.univ fun b => owns (c : Thread nD τ) (M.slice (R b) (hR b)) fullShare (X b) : sProp 𝕄)
      ⊢ iprop(∃ g, ⌜∀ b, (M.slice (R b) (hR b)).view.read (Elt F) g = X b⌝ ∗ M.view.loc (c : Thread nD τ) ↦[M.view.set]{fullShare} g) := by
  unfold owns
  have : Nonempty (Buf (Elt F) (M.view.loc (c : Thread nD τ))) := ⟨f₀⟩
  refine (bigSep_exists_pi Finset.univ (fun b (f : Buf (Elt F) (M.view.loc (c : Thread nD τ))) =>
    (iprop(⌜(M.slice (R b) (hR b)).view.read (Elt F) f = X b⌝ ∗ M.view.loc (c : Thread nD τ) ↦[(M.slice (R b) (hR b)).view.set]{fullShare} f) : sProp 𝕄))).trans ?_
  iintro ⟨%fs, H⟩
  ihave H := (bigSep_pure_sep Finset.univ (fun b => (M.slice (R b) (hR b)).view.read (Elt F) (fs b) = X b)
    (fun b => (M.view.loc (c : Thread nD τ) ↦[pieceSet c M R hR b]{fullShare} fs b : sProp 𝕄))) $$ H
  icases H with ⟨%hp, H⟩
  ihave H := (pointsTo_biUnion_join Finset.univ (pieceSet c M R hR) fs f₀
    (fun b _ b' _ h => family_disjoint c M R hR hd b b' h)) $$ H
  icases H with ⟨%g, %hg, H⟩
  iexists g
  isplitr
  · ipureintro
    intro b
    exact (View.read_congr (hg b (Finset.mem_univ b))).trans (hp b (Finset.mem_univ b))
  · rw [family_cover c M R hR hc]; iexact H

end Family

/-! ## The eight row chunks of a 512 × 512 buffer -/

theorem rect_disjoint (k k' : Fin 8) (h : k ≠ k') : Disjoint (rect k).set (rect k').set := by
  have hk : k.val ≠ k'.val := fun e => h (Fin.ext e)
  refine Rect.unit_disjoint (0 : Fin 2) ?_
  show 64 * k.val + 64 ≤ 64 * k'.val ∨ 64 * k'.val + 64 ≤ 64 * k.val
  omega

theorem rect_cover (i : S512x512.Idx) : ∃ k, i ∈ (rect k).set := by
  have h0 : (i (0 : Fin 2)).val < 512 := (i (0 : Fin 2)).isLt
  have h1 : (i (1 : Fin 2)).val < 512 := (i (1 : Fin 2)).isLt
  refine ⟨⟨(i (0 : Fin 2)).val / 64, by omega⟩, Rect.mem_set_unit.mpr fun a => ?_⟩
  fin_cases a
  · show 64 * ((i (0 : Fin 2)).val / 64) ≤ (i (0 : Fin 2)).val ∧ (i (0 : Fin 2)).val < 64 * ((i (0 : Fin 2)).val / 64) + 64
    omega
  · show 0 ≤ (i (1 : Fin 2)).val ∧ (i (1 : Fin 2)).val < 0 + 512
    omega

/-- A scratch buffer owned whole is its eight chunks. -/
theorem chunks_cut (c : Dev nD) (M : Memref sig .tc .vmem S512x512 .bf16) (f : Buf (Elt F) (M.view.loc (c : Thread nD τ))) :
    (M.view.loc (c : Thread nD τ) ↦[M.view.set]{fullShare} f : sProp 𝕄) ⊢ bigSep Finset.univ fun k => iprop(∃ X, chO c M k X) :=
  family_cut c M rect (fun _ _ => rfl) rect_disjoint rect_cover f

/-- Its eight chunks make the buffer whole. -/
theorem chunks_join (c : Dev nD) (M : Memref sig .tc .vmem S512x512 .bf16) (X : Fin 8 → Vec F S64x512 .bf16)
    (f₀ : Buf (Elt F) (M.view.loc (c : Thread nD τ))) :
    (bigSep Finset.univ fun k => chO c M k (X k) : sProp 𝕄) ⊢ iprop(∃ g, M.view.loc (c : Thread nD τ) ↦[M.view.set]{fullShare} g) := by
  refine (family_join c M rect (fun _ _ => rfl) rect_disjoint rect_cover X f₀).trans ?_
  iintro ⟨%g, -, H⟩
  iexists g; iexact H

/-! ## The sixteen pieces of the result block -/

/-- The pieces of device `c`'s result block: its own column half (`true`) and the other, by row chunk. -/
abbrev piece (c : Dev nD) (b : Bool × Fin 8) : Rect S512x1024 :=
  Rect.unit (s := S512x1024) (if b.1 then offOwn b.2 c else offOther b.2 c) S64x512.size
    (by cases b.1 <;> [exact inbOther b.2 c; exact inbOwn b.2 c])

/-- Where a piece starts: row `64 k`, column 0 or 512. -/
theorem piece_off (c : Dev nD) (b : Bool × Fin 8) :
    (if b.1 then offOwn b.2 c else offOther b.2 c) = ![64 * b.2.val, 512 * (if b.1 then c.val % 2 else 1 - c.val % 2)] := by
  obtain ⟨b, k⟩ := b
  cases b
  · refine (offOther_eq k c).trans ?_
    have := Nat.mod_lt c.val (by decide : 0 < 2)
    funext a; fin_cases a
    · rfl
    · show 512 - 512 * (c.val % 2) = 512 * (1 - c.val % 2); omega
  · exact offOwn_eq k c

theorem piece_disjoint (c : Dev nD) (b b' : Bool × Fin 8) (h : b ≠ b') : Disjoint (piece c b).set (piece c b').set := by
  have hm := Nat.mod_lt c.val (by decide : 0 < 2)
  by_cases hk : b.2 = b'.2
  · refine Rect.unit_disjoint (1 : Fin 2) ?_
    rw [piece_off, piece_off]
    have hb : b.1 ≠ b'.1 := fun e => h (Prod.ext e hk)
    show 512 * (if b.1 then c.val % 2 else 1 - c.val % 2) + 512 ≤ 512 * (if b'.1 then c.val % 2 else 1 - c.val % 2)
      ∨ 512 * (if b'.1 then c.val % 2 else 1 - c.val % 2) + 512 ≤ 512 * (if b.1 then c.val % 2 else 1 - c.val % 2)
    split <;> split <;> first | omega | (exfalso; apply hb; simp_all)
  · have hk : b.2.val ≠ b'.2.val := fun e => hk (Fin.ext e)
    refine Rect.unit_disjoint (0 : Fin 2) ?_
    rw [piece_off, piece_off]
    show 64 * b.2.val + 64 ≤ 64 * b'.2.val ∨ 64 * b'.2.val + 64 ≤ 64 * b.2.val
    omega

/-- The piece an index of the result block lies in, -/
def pieceOf (c : Dev nD) (i : S512x1024.Idx) : Bool × Fin 8 :=
  (decide ((i (1 : Fin 2)).val / 512 = c.val % 2), ⟨(i (0 : Fin 2)).val / 64, by
    have : (i (0 : Fin 2)).val < 512 := (i (0 : Fin 2)).isLt
    omega⟩)
/-- and where in the piece. -/
def within (i : S512x1024.Idx) : S64x512.Idx
  | ⟨0, _⟩ => ⟨(i (0 : Fin 2)).val % 64, Nat.mod_lt _ (by decide)⟩
  | ⟨1, _⟩ => ⟨(i (1 : Fin 2)).val % 512, Nat.mod_lt _ (by decide)⟩

theorem piece_emb (c : Dev nD) (i : S512x1024.Idx) : (piece c (pieceOf c i)).emb (within i) = i := by
  have h0 : (i (0 : Fin 2)).val < 512 := (i (0 : Fin 2)).isLt
  have h1 : (i (1 : Fin 2)).val < 1024 := (i (1 : Fin 2)).isLt
  have hm := Nat.mod_lt c.val (by decide : 0 < 2)
  have ho := piece_off c (pieceOf c i)
  funext a
  refine Fin.ext ?_
  show (if (pieceOf c i).1 then offOwn (pieceOf c i).2 c else offOther (pieceOf c i).2 c) a + 1 * (within i a).val = (i a).val
  rw [ho]
  fin_cases a
  · show 64 * ((i (0 : Fin 2)).val / 64) + 1 * ((i (0 : Fin 2)).val % 64) = (i (0 : Fin 2)).val
    omega
  · show 512 * (if decide ((i (1 : Fin 2)).val / 512 = c.val % 2) = true then c.val % 2 else 1 - c.val % 2) + 1 * ((i (1 : Fin 2)).val % 512) = (i (1 : Fin 2)).val
    simp only [decide_eq_true_eq]
    split <;> omega

theorem piece_cover (c : Dev nD) (i : S512x1024.Idx) : ∃ b, i ∈ (piece c b).set := by
  refine ⟨pieceOf c i, ?_⟩
  rw [← Rect.map_emb_univ]
  exact Finset.mem_map.mpr ⟨within i, Finset.mem_univ _, piece_emb c i⟩

/-- What each piece holds at the end: the device's reduced chunk in its own half, its y neighbour's in the other. -/
def pieceV (c : Dev nD) (b : Bool × Fin 8) : Vec F S64x512 .f32 := if b.1 then redV m c b.2 else farV m c b.2

/-- Device `c`'s result block at the end. -/
def outC (c : Dev nD) : (cc0_stg1_0 : Ref sig .tc).ty.Contents (Elt F) := fun i => pieceV m c (pieceOf c i) (within i)

/-- Contents that read as `pieceV` through every piece are `outC`. -/
theorem outC_unique (c : Dev nD) (g : (cc0_stg1_0 : Ref sig .tc).ty.Contents (Elt F))
    (h : ∀ b, (oM.slice (piece c b) (fun _ => rfl)).view.read (Elt F) g = pieceV m c b) : g = outC m c := by
  funext i
  have := congrFun (h (pieceOf c i)) (within i)
  refine Eq.trans ?_ this
  show g i = g ((piece c (pieceOf c i)).emb (within i))
  rw [piece_emb]

/-- Over the pieces is over the row chunks of each half. -/
theorem bigSep_pieces (Φ : Bool × Fin 8 → sProp 𝕄) :
    bigSep Finset.univ Φ = iprop((bigSep Finset.univ fun k => Φ (true, k)) ∗ bigSep Finset.univ fun k => Φ (false, k)) := by
  rw [bigSep_univ_prod, bigSep_univ_eq_bigSepL [true, false] (by decide) (by decide), bigSepL_cons_cons, bigSepL_singleton]
  rfl

/-- The result block owned whole is its pieces, half by half. -/
theorem out_cut (c : Dev nD) (f : Buf (Elt F) (oM.view.loc (c : Thread nD τ))) :
    (oM.view.loc (c : Thread nD τ) ↦{fullShare} f : sProp 𝕄)
      ⊢ iprop((bigSep Finset.univ fun k => iprop(∃ X, oO c (oOwn k c) X)) ∗ bigSep Finset.univ fun k => iprop(∃ X, oO c (oFar k c) X)) := by
  have h := family_cut (F := F) c oM (piece c) (fun _ _ => rfl) (piece_disjoint c) (piece_cover c) f
  rw [bigSep_pieces, View.set_whole] at h
  exact h

/-- The pieces at their final values make the result block `outC`. -/
theorem out_join (c : Dev nD) :
    iprop((bigSep Finset.univ fun k => oO c (oOwn k c) (redV m c k)) ∗ bigSep Finset.univ fun k => oO c (oFar k c) (farV m c k))
      ⊢ (oM.view.loc (c : Thread nD τ) ↦{fullShare} outC m c : sProp 𝕄) := by
  have h := family_join (F := F) c oM (piece c) (fun _ _ => rfl) (piece_disjoint c) (piece_cover c) (pieceV m c) (outC m c)
  rw [bigSep_pieces, View.set_whole] at h
  refine (show _ ⊢ _ from h).trans ?_
  iintro ⟨%g, %hg, H⟩
  obtain rfl := outC_unique m c g hg
  iexact H

end Cert.Torus

end
-- ==== Proof.Body.lean ====
/-
# `Body`: the whole body on one device

The handshake and the four loops put together: from its share of the protocol's ghost state, its buffers and its staged
block of `x`, a device runs the body and ends with its result block at `outC`, all its cells closed at zero and nothing owed.
-/
module

public import proofs.«01_k».proof.Proof.Chunk
public import proofs.«01_k».proof.Proof.Buffers

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-- `Φ` at all eight chunks. -/
abbrev each (Φ : Fin 8 → sProp 𝕄) : sProp 𝕄 := bigSep Finset.univ Φ

/-- A device's positions: at the start of its barrier cell and of its 32 transfer cells. -/
def places (c : Dev nD) : sProp 𝕄 :=
  iprop(atPos ET (barCell c) 0 ∅ 0
    ∗ each (fun k => atPos ET (dcell c 0 k) 0 ∅ 0) ∗ each (fun k => atPos ET (dcell c 1 k) 0 ∅ 0)
    ∗ each (fun k => atPos ET (dcell c 2 k) 0 ∅ 0) ∗ each (fun k => atPos ET (dcell c 3 k) 0 ∅ 0))

/-- The tokens of the duties a device pays: its neighbours' barriers, its own send cells, its neighbours' receive cells. -/
def payToks (c : Dev nD) : sProp 𝕄 :=
  iprop(dutyTok ET (barCell (px c)) 0 false ∗ dutyTok ET (barCell (py c)) 0 true
    ∗ each (fun k => dutyTok ET (dcell c 0 k) 0 false) ∗ each (fun k => dutyTok ET (dcell (px c) 1 k) 0 false)
    ∗ each (fun k => dutyTok ET (dcell c 2 k) 0 false) ∗ each (fun k => dutyTok ET (dcell (py c) 3 k) 0 false))

/-- A device's ghost state at the start. -/
def ghost (c : Dev nD) : sProp 𝕄 := iprop(records m K ∗ places c ∗ payToks c)

/-- Its credits: the barrier's two units, one chunk's credit at each receive cell. -/
def creds (c : Dev nD) : sProp 𝕄 :=
  iprop(cred (tallyAt (barCell c) () 2) ∗ each (fun k => cred (tallyAt (dcell c 1 k) () N)) ∗ each (fun k => cred (tallyAt (dcell c 3 k) () N)))

/-- A scratch buffer, at whatever contents. -/
def scr (c : Dev nD) (M : Memref sig .tc .vmem S512x512 .bf16) : sProp 𝕄 :=
  iprop(∃ f, M.view.loc (c : Thread nD τ) ↦[M.view.set]{fullShare} f)
def scrs (c : Dev nD) : sProp 𝕄 := iprop(scr c xsM ∗ scr c xrM ∗ scr c ysM ∗ scr c yrM)

/-- All cells closed at zero. -/
def zeros (c : Dev nD) : sProp 𝕄 :=
  iprop(semVal (barCell c) 0
    ∗ each (fun k => semVal (dcell c 0 k) 0) ∗ each (fun k => semVal (dcell c 1 k) 0)
    ∗ each (fun k => semVal (dcell c 2 k) 0) ∗ each (fun k => semVal (dcell c 3 k) 0))

def outPts (c : Dev nD) (f : Buf (Elt F) (oM.view.loc (c : Thread nD τ))) : sProp 𝕄 := oM.view.loc (c : Thread nD τ) ↦{fullShare} f

def pre (c : Dev nD) : sProp 𝕄 :=
  iprop(ghost m K c ∗ creds c ∗ scrs c ∗ ow c (O₀ c) ∗ xPts m c ∗ ∃ f, outPts c f)
def post (c : Dev nD) : sProp 𝕄 :=
  iprop(scrs c ∗ zeros c ∗ ow c 0 ∗ xPts m c ∗ outPts c (outC m c))

/-- A scratch buffer is its eight chunks, at whatever they hold; -/
theorem scr_cut (c : Dev nD) (M : Memref sig .tc .vmem S512x512 .bf16) : (scr c M : sProp 𝕄) ⊢ each fun k => iprop(∃ X, chO c M k X) := by
  unfold scr
  iintro ⟨%f, H⟩; iapply (chunks_cut c M f); iexact H
/-- and they make it whole again. -/
theorem scr_join (c : Dev nD) (M : Memref sig .tc .vmem S512x512 .bf16) (X : Fin 8 → Vec F S64x512 .bf16)
    (f₀ : Buf (Elt F) (M.view.loc (c : Thread nD τ))) : (each fun k => chO c M k (X k)) ⊢ (scr c M : sProp 𝕄) := by
  unfold scr; exact chunks_join c M X f₀

/-- A bf16 value to name contents by. -/
def someV (c : Dev nD) : Elt F .bf16 := xsV m c 0 (Shape.Idx.first (by decide))

/-- The loops' invariants and their chunks, in and out. -/
theorem run_loop (c : Dev nD) (O : List (Fin 8) → CellTallies nD τ sig Unit) (Pre Post : Fin 8 → sProp 𝕄) (f : Fin 8 → Prog (Ops F) PUnit)
    (h : ∀ k ks, iprop(carry m K c (O (k :: ks)) ∗ Pre k) ⊢ run c (f k) fun _ => iprop(carry m K c (O ks) ∗ Post k)) :
    iprop(carry m K c (O ks8) ∗ each Pre) ⊢ run c (iter f ks8) fun _ => iprop(carry m K c (O []) ∗ each Post) := by
  have := run_iter c (fun ks => carry m K c (O ks)) Pre Post f h ks8
  rw [all_ks8, all_ks8] at this
  exact this

/-- The same in the middle of a program. -/
theorem run_loop_then (c : Dev nD) (O : List (Fin 8) → CellTallies nD τ sig Unit) (Pre Post : Fin 8 → sProp 𝕄) (f : Fin 8 → Prog (Ops F) PUnit)
    (h : ∀ k ks, iprop(carry m K c (O (k :: ks)) ∗ Pre k) ⊢ run c (f k) fun _ => iprop(carry m K c (O ks) ∗ Post k))
    {kont : PUnit → Prog (Ops F) PUnit} {Q : PUnit → sProp 𝕄} :
    iprop(carry m K c (O ks8) ∗ each Pre)
      ⊢ iprop(((carry m K c (O []) ∗ each Post) -∗ run c (kont ⟨⟩) Q) -∗ run c (iter f ks8 >>= kont) Q) := by
  iintro H Hk
  unfold run; rw [wp_bind]
  iapply (wp_wand _ _ _) $$ [H]
  · iapply (run_loop m K c O Pre Post f h); iexact H
  iintro %_ H
  iapply Hk; iexact H

/-- The body on device `c`. -/
theorem run_body (c : Dev nD) : pre m K c ⊢ run c (body (F := F)) fun _ => post m c := by
  unfold body run
  simp only [semSignalWord, semWaitWord, Prog.lift, Prog.bind_op, Prog.bind_ret, wp_deviceId]
  unfold pre ghost places payToks creds scrs
  iintro ⟨⟨#Hrec, ⟨HaB, Ha0, Ha1, Ha2, Ha3⟩, HtX, HtY, Ht0, Ht1, Ht2, Ht3⟩, ⟨HcB, Hc1, Hc3⟩, ⟨Hxs, Hxr, Hys, Hyr⟩, HO, Hx, ⟨%f, Hout⟩⟩
  ihave Hxs := (scr_cut c xsM) $$ Hxs
  ihave Hxr := (scr_cut c xrM) $$ Hxr
  ihave Hys := (scr_cut c ysM) $$ Hys
  ihave Hyr := (scr_cut c yrM) $$ Hyr
  unfold outPts
  ihave Hout := (out_cut c f) $$ Hout
  icases Hout with ⟨Hown, Hfar⟩
  unfold ow
  icases HO with ⟨%W, HO⟩
  simp only [dev1_px c, dev2_py c]
  -- the signal to the x neighbour hands over the x landing chunks
  iapply (Rounds.wp_signal 𝒱₀ ET (torus m) (c : Thread nD τ) none (dst := (px c : Thread nD τ)) (κ := K (px c, none))
      (d := false) (by rw [duties_bar]; exact Finset.mem_univ _) ((amount_bar m (px c) false).trans (by decide)) () (oB c) rfl)
    $$ [HO HtX Hxr]
  · isplitr; · iapply (records_inv m K (px c, none)); iexact Hrec
    isplitl [HO]; · iexact HO
    isplitl [HtX]; · iexact HtX
    isplitl [Hxr]
    · rw [payload_bar]; unfold barPay; rw [if_neg Bool.false_ne_true, px_px]; iexact Hxr
    · iapply (records_reached m K (px c, none)); iexact Hrec
  iintro HO
  -- the signal to the y neighbour hands over the y landing chunks
  iapply (Rounds.wp_signal 𝒱₀ ET (torus m) (c : Thread nD τ) none (dst := (py c : Thread nD τ)) (κ := K (py c, none))
      (d := true) (by rw [duties_bar]; exact Finset.mem_univ _) ((amount_bar m (py c) true).trans (by decide)) () (oX c ks8) rfl)
    $$ [HO HtY Hyr]
  · isplitr; · iapply (records_inv m K (py c, none)); iexact Hrec
    isplitl [HO]; · iexact HO
    isplitl [HtY]; · iexact HtY
    isplitl [Hyr]
    · rw [payload_bar]; unfold barPay; rw [if_pos rfl, py_py]; iexact Hyr
    · iapply (records_reached m K (py c, none)); iexact Hrec
  iintro HO
  -- the wait for both neighbours: their landing chunks
  iapply (Rounds.wp_wait_rest_token 𝒱₀ ET (torus m) (c : Thread nD τ) none (κ := K (c, none))
      (wpE_semWait_eq 𝒱₀ (c : Thread nD τ) none Set.univ) (Set.mem_univ _) () (O := oX c ks8) (W := W) (R := 0) (m := 0) (T := ∅)
      (by rw [expect_bar]; decide)) $$ [HcB HO HaB]
  · isplitr; · iapply (records_inv m K (c, none)); iexact Hrec
    isplitl [HcB]; · iexact HcB
    isplitl [HO]; · iexact HO
    isplitr
    · iapply (mayWait (F := F) c (.reg barS) 1 (oX c ks8) (lv_bar c ()).le (above_oX c ks8)); iapply (records_lev m K); iexact Hrec
    iexact HaB
  iintro ⟨HO, HaB, -, Hpay⟩
  ihave Hp := (Entails.of_eq (rest_bar m c)) $$ Hpay
  unfold barPay
  rw [if_neg Bool.false_ne_true, if_pos rfl]
  icases Hp with ⟨HxrN, HyrN⟩
  imod (Rounds.cell_close ET (torus m) (Set.mem_univ (K (c, none))) (fun h => h) (R := 0 + 1) (duties_later m (barCell c))) $$ [HaB] with HzB
  · isplitr; · iapply (records_inv m K (c, none)); iexact Hrec
    iexact HaB
  -- the first loop
  iapply (run_loop_then m K c (oX c) (pre1 c) (post1 c) (xsStep c) (run_xsStep m K c)) $$ [HO Hx Hxs HxrN Ht0 Ht1]
  · unfold carry ow pre1
    isplitl [HO Hx]
    · isplitr; · iexact Hrec
      isplitl [Hx]; · iexact Hx
      iexists _; iexact HO
    · unfold each; simp only [bigSep_sep']
      isplitl [Hxs]; · iexact Hxs
      isplitl [HxrN]; · iexact HxrN
      isplitl [Ht0] <;> iassumption
  iintro ⟨HC, Hc0⟩
  rw [show oX c [] = due (py c) 3 ks8 from by unfold oX; rw [due_nil, zero_add]]
  -- the second
  iapply (run_loop_then m K c (due (py c) 3) (pre2 c) (post2 m c) (redStep c) (run_redStep m K c)) $$ [HC Hc1 Ha1 Hown Hys HyrN Ht2 Ht3]
  · isplitl [HC]; · iexact HC
    unfold each pre2; simp only [bigSep_sep']
    isplitl [Hc1]; · iexact Hc1
    isplitl [Ha1]; · iexact Ha1
    isplitl [Hown]; · iexact Hown
    isplitl [Hys]; · iexact Hys
    isplitl [HyrN]; · iexact HyrN
    isplitl [Ht2] <;> iassumption
  iintro ⟨HC, Hpost2⟩
  rw [due_nil]
  unfold each post2; simp only [bigSep_sep']
  icases Hpost2 with ⟨Hxr, Hown, Hc2, Hz1⟩
  -- the third
  iapply (run_loop_then m K c (fun _ => 0) (pre3 c) (post3 m c) (outStep c) (run_outStep m K c)) $$ [HC Hc3 Ha3 Hfar]
  · isplitl [HC]; · iexact HC
    unfold each pre3; simp only [bigSep_sep']
    isplitl [Hc3]; · iexact Hc3
    isplitl [Ha3] <;> iassumption
  iintro ⟨HC, Hpost3⟩
  unfold each post3; simp only [bigSep_sep']
  icases Hpost3 with ⟨Hyr, Hfar, Hz3⟩
  -- the fourth
  iapply (wp_wand _ _ _) $$ [HC Hc0 Hc2 Ha0 Ha2]
  · iapply (run_loop m K c (fun _ => 0) (pre4 c) (post4 m c) swStep (run_swStep m K c))
    isplitl [HC]; · iexact HC
    unfold each pre4; simp only [bigSep_sep']
    isplitl [Hc0]; · iexact Hc0
    isplitl [Hc2]; · iexact Hc2
    isplitl [Ha0] <;> iassumption
  iintro %_ ⟨HC, Hpost4⟩
  unfold each post4; simp only [bigSep_sep']
  icases Hpost4 with ⟨Hxs, Hys, Hz0, Hz2⟩
  unfold carry
  icases HC with ⟨-, Hx, HO⟩
  unfold post scrs zeros outPts
  isplitl [Hxs Hxr Hys Hyr]
  · isplitl [Hxs]; · iapply (scr_join c xsM _ (fun _ => someV m c)); iexact Hxs
    isplitl [Hxr]; · iapply (scr_join c xrM _ (fun _ => someV m c)); iexact Hxr
    isplitl [Hys]; · iapply (scr_join c ysM _ (fun _ => someV m c)); iexact Hys
    iapply (scr_join c yrM _ (fun _ => someV m c)); iexact Hyr
  isplitl [HzB Hz0 Hz1 Hz2 Hz3]
  · isplitl [HzB]; · iexact HzB
    isplitl [Hz0]; · iexact Hz0
    isplitl [Hz1]; · iexact Hz1
    isplitl [Hz2] <;> iassumption
  isplitl [HO]; · iexact HO
  isplitl [Hx]; · iexact Hx
  iapply (out_join m c)
  isplitl [Hown] <;> iassumption

end Cert.Torus

end
-- ==== Proof.Launch.lean ====
/-
# `Launch`: the kernel's launch on the four devices

The pipeline's proof data, the body obligation from `run_body`, the ghost state dealt out at launch — every device's cells
under one update, since neighbours share them — and the run of the whole program: from any memory with zero counters every
fair execution ends, with the result block of each device at `outC`, `x` unchanged and all counters zero.
-/
module

public import proofs.«01_k».proof.Proof.Body
public import Idealize.ShloMosaic.Lib.Pipeline.CollectiveSegs

@[expose] public section

noncomputable section

namespace Cert.Torus

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The pipeline's proof data -/

/-- A device's ghost state as the launch deals it, the levels apart. -/
def dealt (K : Dev nD × Slot → ℕ) (c : Dev nD) : sProp 𝕄 := iprop(bigSep Finset.univ (recAt m K) ∗ places c ∗ payToks c)
/-- What the body starts from: that with the levels, and the credits. -/
def start (c : Dev nD) : sProp 𝕄 := iprop((∃ K, ghost m K c) ∗ creds c)

def Φ₀ (c : Dev nD) : sProp 𝕄 := iprop(start m c ∗ scrs c)
def Φ₁ (c : Dev nD) : sProp 𝕄 := iprop(scrs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outC m c))

set_option maxRecDepth 65536 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) oM (Memref.isWhole_whole _) xsM (Memref.isWhole_whole _) xrM (Memref.isWhole_whole _)
      ysM (Memref.isWhole_whole _) yrM (Memref.isWhole_whole _) cc0_scratch4 cc0_scratch5 cc0_scratch6 cc0_scratch7) (fun _ => bodyPost m ρ c)
  rw [body_eq]
  unfold bodyPre Φ₀ start
  iintro ⟨⟨⟨⟨%K, Hg⟩, Hcr⟩, Hscr⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (wp_wand _ _ _) $$ [Hg Hcr Hscr HO Hx Hout]
  · iapply (run_body m K c)
    unfold pre ow xPts outPts
    isplitl [Hg]; · iexact Hg
    isplitl [Hcr]; · iexact Hcr
    isplitl [Hscr]; · iexact Hscr
    isplitl [HO]; · iexists W; iexact HO
    isplitl [Hx]; · iexact Hx
    iexists g1; iexact Hout
  iintro %_ H
  unfold post ow xPts outPts
  icases H with ⟨Hscr, Hz, ⟨%W', HO⟩, Hx, Hout⟩
  unfold bodyPost Φ₁ Dat.owesAt Pipeline.owesWithin
  rw [show (dats m ρ 0 c).owed t₀.succ = 0 from rfl]
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## Dealing the ghost state -/

theorem ownSemFacts : Pipeline.OwnSemFacts cfg0.spec osem := by decide

theorem share_eq (c : Dev nD) (w : Fin cfg0.W) : (dats m ρ 0 c).share w = fullShare := by unfold Dat.share; split <;> rfl

/-- Over a device's slots is at the barrier and over the transfer cells; -/
theorem bigSep_slot (Φ : Slot → sProp 𝕄) : bigSep Finset.univ Φ = iprop(Φ none ∗ bigSep Finset.univ fun q => Φ (some q)) := by
  rw [bigSep_univ_at Φ none, show (Finset.univ : Finset Slot).erase none = Finset.univ.map Function.Embedding.some from by decide, bigSep_map]
  rfl
/-- over these, by the four arrays. -/
theorem bigSep_four (Φ : Fin 4 × Fin 8 → sProp 𝕄) :
    bigSep Finset.univ Φ = iprop(each (fun k => Φ (0, k)) ∗ each (fun k => Φ (1, k)) ∗ each (fun k => Φ (2, k)) ∗ each (fun k => Φ (3, k))) := by
  rw [bigSep_univ_prod, bigSep_univ_eq_bigSepL [0, 1, 2, 3] (by decide) (by decide)]
  rfl

def torusCells : Finset (GSem nD τ sig) := Finset.univ.map ⟨kcell, kcell_inj⟩

/-- A device's own cells' duties: two at the barrier, one at each transfer cell. -/
abbrev tokOf (x : Dev nD × (Bool ⊕ (Fin 4 × Fin 8))) : GSem nD τ sig × ℕ × Bool :=
  match x.2 with
  | .inl d => (barCell x.1, 0, d)
  | .inr q => (dcell x.1 q.1 q.2, 0, false)
theorem tokOf_inj : Function.Injective tokOf := fun x y h => by
  obtain ⟨c, x⟩ := x; obtain ⟨d, y⟩ := y
  have hcell : kcell (c, x.elim (fun _ => none) some) = kcell (d, y.elim (fun _ => none) some) := by
    have := congrArg Prod.fst h
    rcases x with x | x <;> rcases y with y | y <;> exact this
  have hs := kcell_inj hcell
  obtain rfl : c = d := congrArg Prod.fst hs
  have hs : x.elim (fun _ => none) some = (y.elim (fun _ => none) some : Slot) := congrArg Prod.snd hs
  rcases x with x | x <;> rcases y with y | y
  · obtain rfl : x = y := congrArg (fun z : GSem nD τ sig × ℕ × Bool => z.2.2) h
    rfl
  · cases hs
  · cases hs
  · obtain rfl : x = y := Option.some.inj hs
    rfl
def torusToks : Finset (GSem nD τ sig × ℕ × Bool) := Finset.univ.map ⟨tokOf, tokOf_inj⟩

def u₀ : UU := (initOf (Pipeline.cells cfgs cellOf_inj) (Pipeline.launchToks cfgs cellOf_inj), initOf torusCells torusToks)

/-- The tokens of a device's own cells' duties. -/
def ownToks (c : Dev nD) : sProp 𝕄 :=
  iprop((dutyTok ET (barCell c) 0 false ∗ dutyTok ET (barCell c) 0 true)
    ∗ each (fun k => dutyTok ET (dcell c 0 k) 0 false) ∗ each (fun k => dutyTok ET (dcell c 1 k) 0 false)
    ∗ each (fun k => dutyTok ET (dcell c 2 k) 0 false) ∗ each (fun k => dutyTok ET (dcell c 3 k) 0 false))

/-- What the launch element deals a device; -/
def G (c : Dev nD) : sProp 𝕄 :=
  iprop((bigSep Finset.univ fun s : Slot => roundState ET (torus m) (kcell (c, s)) 0)
    ∗ (bigSep Finset.univ fun s : Slot => atPos ET (kcell (c, s)) 0 ∅ 0)
    ∗ (bigSep Finset.univ fun s : Slot => reached ET (kcell (c, s)) 0) ∗ ownToks c)
/-- what the global step makes of it. -/
def G' (c : Dev nD) : sProp 𝕄 := iprop(∃ K, dealt m K c)

theorem fund_torus : BI.own (ET (initOf torusCells torusToks)) ⊢ (|==> bigSep Finset.univ (G m) : sProp 𝕄) := by
  have hX (Φ : GSem nD τ sig → sProp 𝕄) : bigSep torusCells Φ = bigSep Finset.univ fun c : Dev nD => bigSep Finset.univ fun s : Slot => Φ (kcell (c, s)) := by
    unfold torusCells; rw [bigSep_map, bigSep_univ_prod]; rfl
  have hT : bigSep torusToks (fun x => (dutyTok ET x.1 x.2.1 x.2.2 : sProp 𝕄)) = bigSep Finset.univ fun c : Dev nD => ownToks c := by
    unfold torusToks; rw [bigSep_map, bigSep_univ_prod]
    refine bigSep_congr fun c _ => ?_
    unfold ownToks
    rw [bigSep_univ_sum, bigSep_four, bigSep_univ_eq_bigSepL [false, true] (by decide) (by decide), bigSepL_cons_cons, bigSepL_singleton]
    rfl
  iintro HX
  imod (Rounds.fund ET (torus m) torusCells torusToks) $$ HX with ⟨Hst, Hr, Hat, Htok⟩
  imodintro
  ihave Hst' := (Entails.of_eq (hX fun g => roundState ET (torus m) g 0)) $$ Hst
  ihave Hat' := (Entails.of_eq (hX fun g => atPos ET g 0 ∅ 0)) $$ Hat
  ihave Hr' := (Entails.of_eq (hX fun g => reached ET g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The launch's unscoped semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev ownSems (c : Dev nD) : sProp 𝕄 := Pipeline.ownSems0 (Ix := Unit) (Name := ℕ) (U := UU) (Lvl := ℕ) (Val := Elt F) (τ := τ) osem c

/-- The scoped semaphores, by the four arrays. -/
theorem ownSems_eq (c : Dev nD) : (ownSems c : sProp 𝕄)
    = iprop(each (fun k => semVal (dcell c 0 k) 0) ∗ each (fun k => semVal (dcell c 1 k) 0) ∗ each (fun k => semVal (dcell c 2 k) 0) ∗ each (fun k => semVal (dcell c 3 k) 0)) := by
  show bigSep Finset.univ (fun q => semVal ((c : Thread nD τ), osem q) 0) = _
  rw [bigSep_four]

/-- All of a device's counters at zero. -/
theorem sems_eq (c : Dev nD) : (bigSep Finset.univ fun s : Slot => semVal (kcell (c, s)) 0 : sProp 𝕄) = iprop(unscopedSems0 c ∗ ownSems c) := by
  rw [bigSep_slot, unscopedSems0_eq]; rfl

/-- One device's cells' invariants, allocated. -/
theorem core_alloc (c : Dev nD) :
    iprop(ownSems c ∗ unscopedSems0 c ∗ G m c)
      ⊢ |={Set.univ}=> iprop((bigSep Finset.univ fun s : Slot => iprop(∃ κ : ℕ, cellInv ET (torus m) κ (kcell (c, s))))
          ∗ (bigSep Finset.univ fun s : Slot => atPos ET (kcell (c, s)) 0 ∅ 0)
          ∗ (bigSep Finset.univ fun s : Slot => reached ET (kcell (c, s)) 0) ∗ ownToks c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun s : Slot => semVal (kcell (c, s)) 0) ∗ bigSep Finset.univ fun s : Slot => roundState ET (torus m) (kcell (c, s)) 0)
      ⊢ (|={Set.univ}=> bigSep Finset.univ fun s : Slot => iprop(∃ κ : ℕ, cellInv ET (torus m) κ (kcell (c, s))) : sProp 𝕄) from by
        rw [← bigSep_sep']
        exact (bigSep_mono fun s _ => (Rounds.body_intro ET (torus m) (kcell (c, s))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The tokens dealt to those who pay: a barrier's `false` and an x receive cell's token to the x neighbour, a barrier's `true` and
    a y receive cell's token to the y neighbour. -/
theorem toks_across : (bigSep Finset.univ fun c : Dev nD => (ownToks c : sProp 𝕄)) ⊢ bigSep Finset.univ fun c : Dev nD => payToks c := by
  unfold ownToks payToks
  simp only [bigSep_sep']
  rw [bigSep_univ_equiv flipX (fun c : Dev nD => (dutyTok ET (barCell c) 0 false : sProp 𝕄)),
    bigSep_univ_equiv flipY (fun c : Dev nD => (dutyTok ET (barCell c) 0 true : sProp 𝕄)),
    bigSep_univ_equiv flipX (fun c : Dev nD => each fun k => (dutyTok ET (dcell c 1 k) 0 false : sProp 𝕄)),
    bigSep_univ_equiv flipY (fun c : Dev nD => each fun k => (dutyTok ET (dcell c 3 k) 0 false : sProp 𝕄))]
  iintro ⟨⟨HF, HT⟩, H0, H1, H2, H3⟩
  isplitl [HF]; · iexact HF
  isplitl [HT]; · iexact HT
  isplitl [H0]; · iexact H0
  isplitl [H1]; · iexact H1
  isplitl [H2]; · iexact H2
  iexact H3

/-- A persistent fact given to every member. -/
theorem bigSep_share {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

theorem places_eq (c : Dev nD) : (bigSep Finset.univ fun s : Slot => (atPos ET (kcell (c, s)) 0 ∅ 0 : sProp 𝕄)) = places c := by
  rw [bigSep_slot, bigSep_four]; rfl

theorem regroup :
    (bigSep Finset.univ fun c : Dev nD => iprop((bigSep Finset.univ fun s : Slot => iprop(∃ κ : ℕ, cellInv ET (torus m) κ (kcell (c, s))))
          ∗ (bigSep Finset.univ fun s : Slot => atPos ET (kcell (c, s)) 0 ∅ 0)
          ∗ (bigSep Finset.univ fun s : Slot => reached ET (kcell (c, s)) 0) ∗ ownToks c) : sProp 𝕄)
      ⊢ bigSep Finset.univ (G' m) := by
  simp only [bigSep_sep', places_eq]
  rw [← bigSep_univ_prod (fun ck : Dev nD × Slot => iprop(∃ κ : ℕ, cellInv ET (torus m) κ (kcell ck))),
    ← bigSep_univ_prod (fun ck : Dev nD × Slot => (reached ET (kcell ck) 0 : sProp 𝕄))]
  iintro ⟨HI, Hat, #HR, Htok⟩
  ihave HK := (BI.bigSep_exists_pi Finset.univ (fun (ck : Dev nD × Slot) (κ : ℕ) => (cellInv ET (torus m) κ (kcell ck) : sProp 𝕄))) $$ HI
  icases HK with ⟨%K, #HI⟩
  ihave Htk := (toks_across (F := F)) $$ Htok
  iapply (bigSep_share (P := bigSep Finset.univ (recAt m K)) (Φ := fun c => iprop(places c ∗ payToks c)) fun c _ =>
    show _ ⊢ G' m c by unfold G' dealt; iintro H; iexists K; iexact H)
  isplitr
  · unfold recAt; rw [bigSep_sep']
    isplitl; · iexact HI
    iexact HR
  · rw [bigSep_sep']
    isplitl [Hat]; · iexact Hat
    iexact Htk

/-- The global step. -/
theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit of the launch -/

theorem tally_kcell (x y : Dev nD × Slot) (n : ℕ) : (tallyAt (kcell x) () n : CellTallies nD τ sig Unit) (kcell y) () = if y = x then n else 0 := by
  rw [tallyAt_apply]
  by_cases h : y = x
  · rw [if_pos ⟨congrArg kcell h, rfl⟩, if_pos h]
  · rw [if_neg fun h' => h (kcell_inj h'.1), if_neg h]

/-- A list of distinct chunks' dues, at one cell. -/
theorem due_at (n : Dev nD) (a : Fin 4) (y : Dev nD × Slot) (ks : List (Fin 8)) (h : ks.Nodup) :
    due n a ks (kcell y) () = if y ∈ ks.map (fun k => ((n, some (a, k)) : Dev nD × Slot)) then N else 0 := by
  induction ks with
  | nil => rfl
  | cons k ks ih =>
    obtain ⟨hk, hks⟩ := List.nodup_cons.mp h
    rw [due_cons, Pi.add_apply, Finsupp.add_apply, ih hks, List.map_cons]
    rw [show (tallyAt (dcell n a k) () N : CellTallies nD τ sig Unit) (kcell y) () = _ from tally_kcell (n, some (a, k)) y N]
    by_cases hy : y = (n, some (a, k))
    · have hn : y ∉ ks.map (fun k => ((n, some (a, k)) : Dev nD × Slot)) := fun hm => by
        obtain ⟨k', hk', e⟩ := List.mem_map.mp hm
        rw [hy] at e
        have e' : (a, k') = (a, k) := Option.some.inj (congrArg Prod.snd e)
        obtain rfl : k' = k := congrArg Prod.snd e'
        exact hk hk'
      rw [if_pos hy, if_neg hn, if_pos (List.mem_cons.mpr (Or.inl hy))]; rfl
    · rw [if_neg hy, Nat.zero_add]
      exact if_congr ⟨fun hm => List.mem_cons.mpr (Or.inr hm), fun hm => (List.mem_cons.mp hm).resolve_left hy⟩ rfl rfl

/-- A slot's dues by the neighbour across x (its receive array is 1), or across y (its is 3). -/
def dueBy (a : Fin 4) : Slot → ℕ | none => 1 | some q => if q.1 = a then N else 0

/-- What a device owes a neighbour's cell of the slot `s` along one axis. -/
theorem due_axis (n c : Dev nD) (a : Fin 4) (s : Slot) :
    due n a ks8 (kcell (c, s)) () + (tallyAt (barCell n) () 1 : CellTallies nD τ sig Unit) (kcell (c, s)) () = if c = n then dueBy a s else 0 := by
  rw [due_at n a (c, s) ks8 (by decide), show (tallyAt (barCell n) () 1 : CellTallies nD τ sig Unit) (kcell (c, s)) () = _ from tally_kcell (n, none) (c, s) 1]
  have hm : Iff ((c, s) ∈ ks8.map (fun k => ((n, some (a, k)) : Dev nD × Slot))) (c = n ∧ ∃ k, s = some (a, k)) := by
    rw [List.mem_map]
    constructor
    · rintro ⟨k, -, e⟩
      exact ⟨(congrArg Prod.fst e).symm, k, (congrArg Prod.snd e).symm⟩
    · rintro ⟨rfl, k, rfl⟩
      exact ⟨k, by revert k; decide, rfl⟩
  by_cases hc : c = n
  · subst hc
    rw [if_pos rfl]
    rcases s with _ | ⟨a', k⟩
    · rw [if_neg (fun h => by obtain ⟨-, k, hk⟩ := hm.mp h; exact Option.some_ne_none _ hk.symm), if_pos rfl]; rfl
    · rw [show (if ((c, some (a', k)) : Dev nD × Slot) = (c, none) then 1 else 0) = 0 from if_neg fun h => Option.some_ne_none _ (congrArg Prod.snd h)]
      show _ = if a' = a then N else 0
      rw [Nat.add_zero]
      refine if_congr (hm.trans ⟨?_, ?_⟩) rfl rfl
      · rintro ⟨-, k', hk'⟩; exact congrArg Prod.fst (Option.some.inj hk')
      · rintro rfl; exact ⟨rfl, k, rfl⟩
  · rw [if_neg hc, if_neg fun h => hc (hm.mp h).1, if_neg fun h => hc (congrArg Prod.fst h)]

theorem owed_at (d c : Dev nD) (s : Slot) :
    O₀ d (kcell (c, s)) () = (if d = px c then dueBy 1 s else 0) + (if d = py c then dueBy 3 s else 0) := by
  have hx : Iff (c = px d) (d = px c) := ⟨fun h => by rw [h, px_px], fun h => by rw [h, px_px]⟩
  have hy : Iff (c = py d) (d = py c) := ⟨fun h => by rw [h, py_py], fun h => by rw [h, py_py]⟩
  rw [← if_congr hx (Eq.refl (dueBy 1 s)) (Eq.refl 0), ← if_congr hy (Eq.refl (dueBy 3 s)) (Eq.refl 0), ← due_axis, ← due_axis]
  unfold O₀ oB oX
  simp only [Pi.add_apply, Finsupp.add_apply]
  omega

theorem launch_at (c : Dev nD) (s : Slot) :
    tallyOn (kcell (c, s)) (launchCredit (Pipeline.owing O₀) 0 (kcell (c, s))) = (tallyAt (kcell (c, s)) () (dueBy 1 s + dueBy 3 s) : CellTallies nD τ sig Unit) := by
  unfold tallyAt; refine congrArg _ (Finsupp.ext fun u => ?_); cases u
  rw [Pipeline.launchCredit_owing, Finsupp.single_eq_same, Finset.sum_congr rfl fun d _ => owed_at d c s, Finset.sum_add_distrib,
    Finset.sum_ite_eq' Finset.univ (px c) fun _ => dueBy 1 s, Finset.sum_ite_eq' Finset.univ (py c) fun _ => dueBy 3 s,
    if_pos (Finset.mem_univ _), if_pos (Finset.mem_univ _)]

/-- The credit of all a device's cells is two units at its barrier, one chunk's at each receive cell, and none elsewhere. -/
theorem creds_of_slots (c : Dev nD) :
    (bigSep Finset.univ fun s : Slot => cred (tallyAt (kcell (c, s)) () (dueBy 1 s + dueBy 3 s)) : sProp 𝕄) ⊢ creds c := by
  rw [bigSep_slot, bigSep_four]
  unfold creds
  iintro ⟨HB, -, H1, -, H3⟩
  isplitl [HB]; · iexact HB
  isplitl [H1]; · iexact H1
  iexact H3

theorem creds_intro (c : Dev nD) : (Pipeline.launchCred O₀ c : sProp 𝕄) ⊢ creds c := by
  unfold Pipeline.launchCred
  refine (bigSep_subset (Finset.subset_univ (Finset.univ.map ⟨csem, csem_inj⟩))).trans ?_
  rw [bigSep_map]
  refine (bigSep_mono (Ψ := fun s : Slot => cred (tallyAt (kcell (c, s)) () (dueBy 1 s + dueBy 3 s))) fun s _ =>
    show cred (tallyOn (kcell (c, s)) (launchCredit (Pipeline.owing O₀) 0 (kcell (c, s)))) ⊢ _ from ?_).trans (creds_of_slots c)
  rw [launch_at]

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' dealt ghost records
  iintro ⟨-, Hlev, Hcr, -, ⟨%K, Hrec, Hpl, Htk⟩⟩
  ihave Hc := (creds_intro (F := F) c) $$ Hcr
  imodintro
  isplitl
  · isplitr [Hc]
    · iexists K
      isplitl [Hlev Hrec]
      · isplitl [Hlev] <;> iassumption
      isplitl [Hpl] <;> iassumption
    · iexact Hc
  · iempintro

theorem scr_eq (c : Dev nD) (b : Ref sig .tc) (f : Buf (Elt F) ((c : Thread nD τ).loc b)) :
    (((c : Thread nD τ).loc b) ↦[(Memref.whole b).view.set]{fullShare} f : sProp 𝕄) = (((c : Thread nD τ).loc b) ↦{fullShare} f) := by
  simp only [Memref.view_whole, View.set_whole]

theorem scrs_eq (c : Dev nD) : (scrs c : sProp 𝕄) = Pipeline.scopedRest cfg0.spec c := by
  rw [scopedRest0_eq]
  unfold scrs scr
  simp only [← scr_eq]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scrs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ ownSems c ∗ Pipeline.scopedRest cfg0.spec c) := by
  rw [show (dats m ρ 0 c).Φ (Fin.last cfg0.N) = Φ₁ c from rfl, ← scrs_eq, ownSems_eq, unscopedSems0_eq]
  unfold Φ₁ zeros
  iintro ⟨Hr, HB, Hz⟩
  isplitl [HB]; · iexact HB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by revert c; fin_cases w <;> fin_cases s <;> decide) (by
      rcases t with ⟨_ | _, ht⟩
      · exact above_O₀ c
      · exact above_zero 0)

/-! ## The run -/

/-- What the arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every fair execution of the whole program on the four devices ends, with every array
    as computed and every counter at zero. -/
theorem run_finalA : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_torus m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Torus

end
-- ==== Proof.Result.lean ====
/-
# `Result`: what the arrays hold after the run

Both windows are their whole arrays, so the result array ends at the block `outC` the body computed and the argument array as
it was: `run_main`, for any float values.
-/
module

public import proofs.«01_k».proof.Proof.Launch
public import Idealize.ShloMosaic.Lib.Pipeline.ValueKit.Geometry

@[expose] public section

noncomputable section

namespace Cert.Torus

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The argument's window is its whole array: a device's staged block is its argument. -/
theorem xstg_eq (c : Dev nD) : xstg m c = m ((c : Thread nD τ).loc main_arg0) := by
  funext i
  show m ((c : Thread nD τ).loc main_arg0) ((win0_0.rect (0 : Fin 1)).emb i) = m ((c : Thread nD τ).loc main_arg0) i
  refine congrArg _ (funext fun a => Fin.ext ?_)
  fin_cases a
  · show 0 + 1 * (i (0 : Fin 2)).val = (i (0 : Fin 2)).val; omega
  · show 0 + 1 * (i (1 : Fin 2)).val = (i (1 : Fin 2)).val; omega

/-- So is the result's: an index of the block is the same index of the array. -/
theorem blk1_emb (t : Fin cfg0.N) (i : S512x1024.Idx) : (win0_1.rect t).emb i = i := by
  rw [fin_N t]
  refine funext fun a => Fin.ext ?_
  fin_cases a
  · show 0 + 1 * (i (0 : Fin 2)).val = (i (0 : Fin 2)).val; omega
  · show 0 + 1 * (i (1 : Fin 2)).val = (i (1 : Fin 2)).val; omega

/-- What the one grid step flushes to the result array. -/
theorem flushed_eq (c : Dev nD) (t : Fin cfg0.N) :
    (dats m ρ 0 c).flushed (1 : Fin 2) t = ((cfg0.win (1 : Fin 2)).blk t).view.read (Elt F) (outC m c) := by
  funext i
  show outC m c i = outC m c ((win0_1.rect t).emb i)
  rw [blk1_emb]

theorem cover (i : S512x1024.Idx) : ∃ t : Fin cfg0.N, (cfg0.win (1 : Fin 2)).flush t = true ∧ i ∈ ((cfg0.win (1 : Fin 2)).blk t).view.set := by
  refine ⟨t₀, flush0_1 _, ?_⟩
  show i ∈ ((View.whole main_v1).slice (win0_1.rect t₀)).set
  rw [View.set_slice_whole, ← Rect.map_emb_univ]
  exact Finset.mem_map.mpr ⟨i, Finset.mem_univ _, blk1_emb t₀ i⟩

theorem finalA_out (c : Dev nD) : finalA m ρ c (1 : Fin 2) = outC m c :=
  (dats m ρ 0 c).arrAt_eq_of_cover (1 : Fin 2) (outC m c) (fun t _ => flushed_eq m ρ c t) cover
theorem finalA_x (c : Dev nD) : finalA m ρ c (0 : Fin 2) = m ((c : Thread nD τ).loc main_arg0) :=
  (dats m ρ 0 c).arrAt_in (0 : Fin 2) rfl _

/-- From any memory with zero counters, every fair execution of the four kernels ends, each device's result array at `outC`, its
    argument unchanged, and every semaphore counter at zero. -/
theorem run_main : θ_run defs (onTc (τ := τ) (main (F := F))) ⟨m, fun _ => 0, ρ⟩ (fun r =>
    (∀ c : Dev nD, r.2.mem ((c : Thread nD τ).loc main_v1) = outC m c
      ∧ r.2.mem ((c : Thread nD τ).loc main_arg0) = m ((c : Thread nD τ).loc main_arg0))
    ∧ r.2.sem = fun _ => 0) :=
  (θ_run defs _ _).mono (fun _ h => ⟨fun c => ⟨(h.1 c (1 : Fin 2)).trans (finalA_out m ρ c), (h.1 c (0 : Fin 2)).trans (finalA_x m ρ c)⟩, h.2⟩)
    (run_finalA m ρ)

end Cert.Torus

end
-- ==== Proof.Sum.lean ====
/-
# `Sum`: one device's result block, with floats read as extended reals

There a change of format is the identity, so every element of the block is a sum of two staged elements: the chosen device's own
and its x neighbour's. The chosen device is the device itself in its own column half, its y neighbour in the other.
-/
module

public import proofs.«01_k».proof.Proof.Result
public import Idealize.ShloMosaic.Lib.Pointwise.Tactic
public import Idealize.ShloMosaic.Lib.Pipeline.Value

@[expose] public section

noncomputable section

namespace Cert.Torus

open Cert.KernelIdeal Cert.KernelIdeal.Gen

open Idealize.ShloMosaic
open Idealize.ShloMosaic.TcCoe

variable (m : (ℓ : Loc nD τ sig) → Buf (Elt Ideal) ℓ)

/-- A device's argument array, its elements as extended reals. -/
def arg (c : Dev nD) (i : S512x512.Idx) : EReal := m ((c : Thread nD τ).loc main_arg0) i

theorem xV_apply (c : Dev nD) (k : Fin 8) (i : S64x512.Idx) : (xV m c k i : EReal) = arg m c ((rect k).emb i) := by
  unfold xV arg
  rw [xstg_eq]
  rfl

/-- Narrowed and widened, a chunk is as it was. -/
theorem xsV_apply (c : Dev nD) (k : Fin 8) (i : S64x512.Idx) : (xsV m c k i : EReal) = arg m c ((rect k).emb i) := by
  rw [← xV_apply]
  unfold xsV k0_pay1
  simp only [shapeCast_self]
  rfl

/-- The reduced chunk is the two devices' sum, -/
theorem redV_apply (c : Dev nD) (k : Fin 8) (i : S64x512.Idx) :
    (redV m c k i : EReal) = arg m c ((rect k).emb i) + arg m (px c) ((rect k).emb i) := by
  rw [← xV_apply, ← xsV_apply]
  unfold redV k0_pay9
  simp only [shapeCast_self]
  rfl

/-- and so is what comes from across y, that of the y neighbour. -/
theorem farV_apply (c : Dev nD) (k : Fin 8) (i : S64x512.Idx) : (farV m c k i : EReal) = (redV m (py c) k i : EReal) := by
  unfold farV ysV k0_pay25 k0_pay10
  simp only [shapeCast_self]
  rw [← redV.eq_def]
  rfl

/-- The device whose columns index `i` lies in, as device `c` sees it; -/
def holder (c : Dev nD) (i : S512x1024.Idx) : Dev nD := if (i (1 : Fin 2)).val / 512 = c.val % 2 then c else py c
/-- the place of index `i` in that device's block. -/
def place (i : S512x1024.Idx) : S512x512.Idx
  | ⟨0, _⟩ => i (0 : Fin 2)
  | ⟨1, _⟩ => ⟨(i (1 : Fin 2)).val % 512, Nat.mod_lt _ (by decide)⟩

theorem rect_within (c : Dev nD) (i : S512x1024.Idx) : (rect (pieceOf c i).2).emb (within i) = place i := by
  refine funext fun a => Fin.ext ?_
  fin_cases a
  · show 64 * ((i (0 : Fin 2)).val / 64) + 1 * ((i (0 : Fin 2)).val % 64) = (i (0 : Fin 2)).val
    omega
  · show 0 + 1 * ((i (1 : Fin 2)).val % 512) = (i (1 : Fin 2)).val % 512
    omega

/-- Every element of the result block is the sum, over the two devices along x that hold its columns, of their elements. -/
theorem outC_apply (c : Dev nD) (i : S512x1024.Idx) :
    (outC m c i : EReal) = arg m (holder c i) (place i) + arg m (px (holder c i)) (place i) := by
  rw [← rect_within c i, ← redV_apply]
  unfold outC pieceV holder
  by_cases h : (i (1 : Fin 2)).val / 512 = c.val % 2
  · rw [if_pos h, if_pos (show (pieceOf c i).1 = true from decide_eq_true h)]
  · rw [if_neg h, if_neg (show ¬ (pieceOf c i).1 = true from fun e => h (of_decide_eq_true e)), farV_apply]

end Cert.Torus

end
-- ==== Proof.Whole.lean ====
/-
# `Whole`: what the reference computes

Reshaped to two slabs of 512 rows and summed over them, the whole array gives at `(r, j)` its elements at rows `r` and `512 + r`.
-/
module

public import proofs.«01_k».proof.Proof.Gen.ReferenceIdeal.Run
public import Idealize.ShloMosaic.Lib.Pointwise.Tactic
public import Idealize.ShloMosaic.Lib.Pointwise.Reduce
public import Idealize.ShloMosaic.Lib.Pipeline.Value

@[expose] public section

noncomputable section

namespace Cert.Torus.Whole

open Cert.ReferenceIdeal Cert.ReferenceIdeal.Gen

open Idealize.ShloMosaic
open Idealize.ShloMosaic.TcCoe
open Idealize.SL.Sem

/-- The place in the whole array of index `i` of slab `s`: row `512 s + r`, the same column. -/
def inSlab (s : Fin 2) (i : S512x1024.Idx) : S1024x1024.Idx
  | ⟨0, _⟩ => ⟨512 * s.val + (i (0 : Fin 2)).val, by have : (i (0 : Fin 2)).val < 512 := (i (0 : Fin 2)).isLt; show _ < 1024; omega⟩
  | ⟨1, _⟩ => i (1 : Fin 2)

variable (X : S1024x1024.Idx → EReal)

/-- The reference's operations, of the whole array. -/
def sumOf : (⟨S512x1024, .f32⟩ : BufTy).Contents (Elt Ideal) :=
  Host.reduceAdd (F := Ideal) (φ := .f32) (shapeCast S2x512x1024 X shapeCasts_S1024x1024_S2x512x1024) (constant S_ .f32 0x00000000#32) reducesTo_S2x512x1024_S512x1024_d0 h_S_

/-- The reshaped array at slab `s`. -/
theorem slab_apply (s : Fin 2) (i : S512x1024.Idx) (K : S2x512x1024.Idx) (h0 : (K (0 : Fin 3)).val = s.val)
    (h1 : (K (1 : Fin 3)).val = (i (0 : Fin 2)).val) (h2 : (K (2 : Fin 3)).val = (i (1 : Fin 2)).val) :
    shapeCast S2x512x1024 X shapeCasts_S1024x1024_S2x512x1024 K = X (inSlab s i) := by
  refine shapeCast_apply X _ _ _ ?_
  rw [Shape.rowMajor_val_two, Shape.rowMajor_val_three]
  show (512 * s.val + (i (0 : Fin 2)).val) * 1024 + (i (1 : Fin 2)).val = ((K (0 : Fin 3)).val * 512 + (K (1 : Fin 3)).val) * 1024 + (K (2 : Fin 3)).val
  omega

/-- Each element is the sum of the two slabs'. -/
theorem sumOf_apply (i : S512x1024.Idx) : (sumOf X i : EReal) = X (inSlab 0 i) + X (inSlab 1 i) := by
  unfold sumOf
  rw [Host.reduceAdd_apply, Ideal.hostReduceAdd_def, Ideal.hostReduceAdd_r3_a0, Fin.sum_univ_two]
  refine (congrArg₂ (· + ·) Ideal.ofBits_zero_f32 (congrArg₂ (· + ·) (slab_apply X 0 i _ rfl rfl rfl) (slab_apply X 1 i _ rfl rfl rfl))).trans ?_
  exact zero_add _

end Cert.Torus.Whole

end
-- ==== Proof.Equation.lean ====
/-
# `Equation`: the devices' result blocks are the reference's result

When each device holds its block of one whole array, the two devices along x that hold a column hold its two slabs; so every
device's `outC` is the reference's sum.
-/
module

public import proofs.«01_k».proof.Proof.Sum
public import proofs.«01_k».proof.Proof.Whole
public import Idealize.ShloMosaic.Lib.Layout

@[expose] public section

noncomputable section

namespace Cert.Torus

open Cert.KernelIdeal Cert.KernelIdeal.Gen

open Idealize.ShloMosaic
open Idealize.ShloMosaic.TcCoe

variable (m : (ℓ : Loc nD τ sig) → Buf (Elt Ideal) ℓ) (X : (⟨2, ![1024, 1024]⟩ : Shape).Idx → EReal)

/-- Each device's argument is its block of the whole array `X`. -/
def Cut : Prop := ∀ c : Dev nD, arg m c = Layout.blockN ⟨2, ![512, 512]⟩ ⟨2, ![1024, 1024]⟩ (Layout.meshBlock [2, 2] ![[0], [1]] c) X

/-- A device's block starts at row 512 times its x coordinate, column 512 times its y coordinate. -/
theorem block_row (c : Dev nD) : ((Layout.meshBlock [2, 2] ![[0], [1]] c : (b : Fin 2) → _) 0).val = c.val / 2 := by revert c; decide
theorem block_col (c : Dev nD) : ((Layout.meshBlock [2, 2] ![[0], [1]] c : (b : Fin 2) → _) 1).val = c.val % 2 := by revert c; decide

/-- So at an index whose columns device `d` holds, it holds the element of its slab. -/
theorem arg_place (h : Cut m X) (d : Dev nD) (s : Fin 2) (i : S512x1024.Idx) (hs : d.val / 2 = s.val)
    (hd : (i (1 : Fin 2)).val / 512 = d.val % 2) : arg m d (place i) = X (Whole.inSlab s i) := by
  rw [h d, Layout.blockN_apply]
  refine congrArg X (funext fun a => Fin.ext ?_)
  rw [Layout.TilesN.idx_val]
  fin_cases a
  · show ((Layout.meshBlock [2, 2] ![[0], [1]] d : (b : Fin 2) → _) 0).val * 512 + (i (0 : Fin 2)).val = 512 * s.val + (i (0 : Fin 2)).val
    rw [block_row, hs]; omega
  · show ((Layout.meshBlock [2, 2] ![[0], [1]] d : (b : Fin 2) → _) 1).val * 512 + (i (1 : Fin 2)).val % 512 = (i (1 : Fin 2)).val
    rw [block_col, ← hd]; omega

theorem px_row (c : Dev nD) : (px c).val / 2 = 1 - c.val / 2 := by revert c; decide
theorem px_col (c : Dev nD) : (px c).val % 2 = c.val % 2 := by revert c; decide
theorem py_col (c : Dev nD) : (py c).val % 2 = 1 - c.val % 2 := by revert c; decide

/-- The holder of an index holds its columns. -/
theorem holder_col (c : Dev nD) (i : S512x1024.Idx) : (i (1 : Fin 2)).val / 512 = (holder c i).val % 2 := by
  have h1 : (i (1 : Fin 2)).val < 1024 := (i (1 : Fin 2)).isLt
  have hm := Nat.mod_lt c.val (by decide : 0 < 2)
  unfold holder
  split
  · assumption
  · rw [py_col]; omega

/-- Every device's result block is the reference's sum. -/
theorem outC_eq (h : Cut m X) (c : Dev nD) : outC m c = Whole.sumOf X := by
  funext i
  refine (outC_apply m c i).trans (Eq.trans ?_ (Whole.sumOf_apply X i).symm)
  have hc := holder_col c i
  have hc' : (i (1 : Fin 2)).val / 512 = (px (holder c i)).val % 2 := by rw [px_col]; exact hc
  have hr := px_row (holder c i)
  have hlt : (holder c i).val < 4 := (holder c i).isLt
  rcases (show (holder c i).val / 2 = 0 ∨ (holder c i).val / 2 = 1 by omega) with h0 | h1
  · rw [arg_place m X h _ 0 i h0 hc, arg_place m X h _ 1 i (by rw [hr, h0]; rfl) hc']
  · rw [arg_place m X h _ 1 i h1 hc, arg_place m X h _ 0 i (by rw [hr, h1]; rfl) hc', add_comm]

end Cert.Torus

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- For any float values, the kernel's text runs to the end from any memory, leaving its argument unchanged and every counter at
    zero. -/
theorem frame_text {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (Cert.Torus.run_main m ρ)

/-- The two programs have the same kernel, -/
theorem kernel_eq {F : FTy → Type} [FloatOps F] : Cert.Kernel.defs₀ (F := F) = Cert.KernelIdeal.defs₀ (F := F) := by
  refine congrArg Defs.onTc (funext fun l => funext fun a => ?_)
  fin_cases l
  rfl
/-- and so the same table of bodies. -/
theorem defs_eq {F : FTy → Type} [FloatOps F] : Cert.Kernel.defs (F := F) = Cert.KernelIdeal.defs (F := F) :=
  congrArg (Pipeline.defs Cert.KernelIdeal.pcfgs) kernel_eq

/-- So the kernel does, -/
theorem frame_kernel : Cert.quiescent_Kernel := fun m ρ _ => by
  rw [defs_eq]
  exact frame_text (F := Bits) m ρ

/-- and its idealization; -/
theorem frame_ideal : Cert.quiescent_KernelIdeal := fun m ρ _ => frame_text (F := Ideal) m ρ

/-- and so does the reference, which has no semaphore. -/
theorem frame_reference : Cert.quiescent_ReferenceIdeal := fun m ρ _ =>
  (θ_run Cert.ReferenceIdeal.defs _ _).mono (fun _ h => ⟨fun c => (h c).2, by funext ⟨_, s⟩; rcases s with s | s <;> exact s.elim0⟩)
    (Cert.ReferenceIdeal.Value.run (F := Ideal) m ρ)

/-- From blocks of one whole array, every device's result is the reference's sum of it. -/
theorem value : Cert.algebraic_KernelIdeal_ReferenceIdeal := fun m ρ m' ρ' _ hcut =>
  ⟨Cert.Torus.Whole.sumOf (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.Torus.outC_eq m _ hcut c), (h.1 c).2⟩)
      (Cert.Torus.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
